-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2048x768 : Shape := ⟨2, ![2048, 768]⟩
abbrev S2048x16 : Shape := ⟨2, ![2048, 16]⟩
abbrev S_ : Shape := ⟨0, ![]⟩
abbrev S768x768 : Shape := ⟨2, ![768, 768]⟩
abbrev S768 : Shape := ⟨1, ![768]⟩
abbrev S16x768 : Shape := ⟨2, ![16, 768]⟩
abbrev S768x3072 : Shape := ⟨2, ![768, 3072]⟩
abbrev S3072 : Shape := ⟨1, ![3072]⟩
abbrev S3072x768 : Shape := ⟨2, ![3072, 768]⟩
abbrev S12 : Shape := ⟨1, ![12]⟩
abbrev S2048 : Shape := ⟨1, ![2048]⟩
abbrev S2048x1 : Shape := ⟨2, ![2048, 1]⟩
abbrev S1x2048 : Shape := ⟨2, ![1, 2048]⟩
abbrev S16x2048 : Shape := ⟨2, ![16, 2048]⟩
abbrev S2048x2048 : Shape := ⟨2, ![2048, 2048]⟩

class Facts : Prop where
  reducesTo_S2048x16_S2048_d1 : S2048x16.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  transposes_S2048x16_S16x2048_1_0 : S2048x16.Transposes [1, 0] S16x2048
  bcast_S_S2048x2048 : S_.BroadcastsInDim S2048x2048 (![] : Fin 0 → Fin S2048x2048.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S1x2048 : S_.BroadcastsInDim S1x2048 (![] : Fin 0 → Fin S1x2048.rank)
  bcast_S_S2048x768 : S_.BroadcastsInDim S2048x768 (![] : Fin 0 → Fin S2048x768.rank)
  bcast_S_S2048x16 : S_.BroadcastsInDim S2048x16 (![] : Fin 0 → Fin S2048x16.rank)
  bcast_S_S768x768 : S_.BroadcastsInDim S768x768 (![] : Fin 0 → Fin S768x768.rank)
  bcast_S_S768 : S_.BroadcastsInDim S768 (![] : Fin 0 → Fin S768.rank)
  bcast_S_S16x768 : S_.BroadcastsInDim S16x768 (![] : Fin 0 → Fin S16x768.rank)
  bcast_S_S12 : S_.BroadcastsInDim S12 (![] : Fin 0 → Fin S12.rank)
  dot_S2048x16_S16x2048_S2048x2048_1_0_0_1_n_n_wf : DotDims.WF S2048x16 S16x2048 S2048x2048 [1] [0] [0] [1] [] []

variable [Facts]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def fn_part5 {F : FTy → Type} [FloatOps F] (main_arg22 : FVec F S12 .f32) (main_v61 : IVec S2048x2048 1) (main_v64 : IVec S2048x768 1) (main_v67 : IVec S2048x16 1) (main_v69 : IVec S_ 1) (main_v72 : IVec S768x768 1) (main_v75 : IVec S768 1) (main_v78 : IVec S768x768 1) (main_v81 : IVec S768 1) (main_v84 : IVec S16x768 1) (main_v87 : IVec S768 1) (main_v90 : IVec S768 1) (main_v93 : IVec S768 1) (main_v94 : FVec F S12 .f32) (main_v95 : FVec F S12 .f32) : IVec S2048x2048 1 × IVec S2048x768 1 × IVec S2048x16 1 × IVec S_ 1 × IVec S768x768 1 × IVec S768 1 × IVec S768x768 1 × IVec S768 1 × IVec S16x768 1 × IVec S768 1 × IVec S768 1 × IVec S768 1 × IVec S12 1 × IVec S12 1 :=
  let main_v96 : IVec S12 1 := cmpf .olt main_v94 main_v95
  let main_v97 : FVec F S12 .f32 := Host.absf main_arg22
  let main_cst_23 : FVec F S_ .f32 := constant S_ .f32 0x7F800000#32
  let main_v98 : FVec F S12 .f32 := broadcastInDim S12 ![] bcast_S_S12 main_cst_23
  let main_v99 : IVec S12 1 := cmpf .olt main_v97 main_v98
  (main_v61, main_v64, main_v67, main_v69, main_v72, main_v75, main_v78, main_v81, main_v84, main_v87, main_v90, main_v93, main_v96, main_v99)

def fn_part4 {F : FTy → Type} [FloatOps F] (main_arg6 : FVec F S768 .f32) (main_arg9 : FVec F S16x768 .f32) (main_arg10 : FVec F S768 .f32) (main_arg17 : FVec F S768 .f32) (main_arg18 : FVec F S768 .f32) (main_arg21 : FVec F S12 .f32) (main_arg22 : FVec F S12 .f32) (main_v61 : IVec S2048x2048 1) (main_v64 : IVec S2048x768 1) (main_v67 : IVec S2048x16 1) (main_v69 : IVec S_ 1) (main_v72 : IVec S768x768 1) (main_v75 : IVec S768 1) (main_v76 : FVec F S768x768 .f32) (main_v77 : FVec F S768x768 .f32) : IVec S2048x2048 1 × IVec S2048x768 1 × IVec S2048x16 1 × IVec S_ 1 × IVec S768x768 1 × IVec S768 1 × IVec S768x768 1 × IVec S768 1 × IVec S16x768 1 × IVec S768 1 × IVec S768 1 × IVec S768 1 × IVec S12 1 × IVec S12 1 :=
  let main_v78 : IVec S768x768 1 := cmpf .olt main_v76 main_v77
  let main_v79 : FVec F S768 .f32 := Host.absf main_arg6
  let main_cst_17 : FVec F S_ .f32 := constant S_ .f32 0x7F800000#32
  let main_v80 : FVec F S768 .f32 := broadcastInDim S768 ![] bcast_S_S768 main_cst_17
  let main_v81 : IVec S768 1 := cmpf .olt main_v79 main_v80
  let main_v82 : FVec F S16x768 .f32 := Host.absf main_arg9
  let main_cst_18 : FVec F S_ .f32 := constant S_ .f32 0x7F800000#32
  let main_v83 : FVec F S16x768 .f32 := broadcastInDim S16x768 ![] bcast_S_S16x768 main_cst_18
  let main_v84 : IVec S16x768 1 := cmpf .olt main_v82 main_v83
  let main_v85 : FVec F S768 .f32 := Host.absf main_arg10
  let main_cst_19 : FVec F S_ .f32 := constant S_ .f32 0x7F800000#32
  let main_v86 : FVec F S768 .f32 := broadcastInDim S768 ![] bcast_S_S768 main_cst_19
  let main_v87 : IVec S768 1 := cmpf .olt main_v85 main_v86
  let main_v88 : FVec F S768 .f32 := Host.absf main_arg17
  let main_cst_20 : FVec F S_ .f32 := constant S_ .f32 0x7F800000#32
  let main_v89 : FVec F S768 .f32 := broadcastInDim S768 ![] bcast_S_S768 main_cst_20
  let main_v90 : IVec S768 1 := cmpf .olt main_v88 main_v89
  let main_v91 : FVec F S768 .f32 := Host.absf main_arg18
  let main_cst_21 : FVec F S_ .f32 := constant S_ .f32 0x7F800000#32
  let main_v92 : FVec F S768 .f32 := broadcastInDim S768 ![] bcast_S_S768 main_cst_21
  let main_v93 : IVec S768 1 := cmpf .olt main_v91 main_v92
  let main_v94 : FVec F S12 .f32 := Host.absf main_arg21
  let main_cst_22 : FVec F S_ .f32 := constant S_ .f32 0x7F800000#32
  let main_v95 : FVec F S12 .f32 := broadcastInDim S12 ![] bcast_S_S12 main_cst_22
  fn_part5 (F := F) main_arg22 main_v61 main_v64 main_v67 main_v69 main_v72 main_v75 main_v78 main_v81 main_v84 main_v87 main_v90 main_v93 main_v94 main_v95

def fn_part3 {F : FTy → Type} [FloatOps F] (main_arg0 : FVec F S2048x768 .f32) (main_arg1 : FVec F S2048x16 .f32) (main_arg2 : FVec F S_ .f32) (main_arg3 : FVec F S768x768 .f32) (main_arg4 : FVec F S768 .f32) (main_arg5 : FVec F S768x768 .f32) (main_arg6 : FVec F S768 .f32) (main_arg9 : FVec F S16x768 .f32) (main_arg10 : FVec F S768 .f32) (main_arg17 : FVec F S768 .f32) (main_arg18 : FVec F S768 .f32) (main_arg21 : FVec F S12 .f32) (main_arg22 : FVec F S12 .f32) (main_v50 : IVec S2048x2048 1) (main_v55 : IVec S2048x2048 1) (main_v59 : IVec S2048x2048 1) : IVec S2048x2048 1 × IVec S2048x768 1 × IVec S2048x16 1 × IVec S_ 1 × IVec S768x768 1 × IVec S768 1 × IVec S768x768 1 × IVec S768 1 × IVec S16x768 1 × IVec S768 1 × IVec S768 1 × IVec S768 1 × IVec S12 1 × IVec S12 1 :=
  let main_v60 : IVec S2048x2048 1 := andi main_v55 main_v59
  let main_v61 : IVec S2048x2048 1 := ori main_v50 main_v60
  let main_v62 : FVec F S2048x768 .f32 := Host.absf main_arg0
  let main_cst_11 : FVec F S_ .f32 := constant S_ .f32 0x7F800000#32
  let main_v63 : FVec F S2048x768 .f32 := broadcastInDim S2048x768 ![] bcast_S_S2048x768 main_cst_11
  let main_v64 : IVec S2048x768 1 := cmpf .olt main_v62 main_v63
  let main_v65 : FVec F S2048x16 .f32 := Host.absf main_arg1
  let main_cst_12 : FVec F S_ .f32 := constant S_ .f32 0x7F800000#32
  let main_v66 : FVec F S2048x16 .f32 := broadcastInDim S2048x16 ![] bcast_S_S2048x16 main_cst_12
  let main_v67 : IVec S2048x16 1 := cmpf .olt main_v65 main_v66
  let main_v68 : FVec F S_ .f32 := Host.absf main_arg2
  let main_cst_13 : FVec F S_ .f32 := constant S_ .f32 0x7F800000#32
  let main_v69 : IVec S_ 1 := cmpf .olt main_v68 main_cst_13
  let main_v70 : FVec F S768x768 .f32 := Host.absf main_arg3
  let main_cst_14 : FVec F S_ .f32 := constant S_ .f32 0x7F800000#32
  let main_v71 : FVec F S768x768 .f32 := broadcastInDim S768x768 ![] bcast_S_S768x768 main_cst_14
  let main_v72 : IVec S768x768 1 := cmpf .olt main_v70 main_v71
  let main_v73 : FVec F S768 .f32 := Host.absf main_arg4
  let main_cst_15 : FVec F S_ .f32 := constant S_ .f32 0x7F800000#32
  let main_v74 : FVec F S768 .f32 := broadcastInDim S768 ![] bcast_S_S768 main_cst_15
  let main_v75 : IVec S768 1 := cmpf .olt main_v73 main_v74
  let main_v76 : FVec F S768x768 .f32 := Host.absf main_arg5
  let main_cst_16 : FVec F S_ .f32 := constant S_ .f32 0x7F800000#32
  let main_v77 : FVec F S768x768 .f32 := broadcastInDim S768x768 ![] bcast_S_S768x768 main_cst_16
  fn_part4 (F := F) main_arg6 main_arg9 main_arg10 main_arg17 main_arg18 main_arg21 main_arg22 main_v61 main_v64 main_v67 main_v69 main_v72 main_v75 main_v76 main_v77

def fn_part2 {F : FTy → Type} [FloatOps F] (main_arg0 : FVec F S2048x768 .f32) (main_arg1 : FVec F S2048x16 .f32) (main_arg2 : FVec F S_ .f32) (main_arg3 : FVec F S768x768 .f32) (main_arg4 : FVec F S768 .f32) (main_arg5 : FVec F S768x768 .f32) (main_arg6 : FVec F S768 .f32) (main_arg9 : FVec F S16x768 .f32) (main_arg10 : FVec F S768 .f32) (main_arg17 : FVec F S768 .f32) (main_arg18 : FVec F S768 .f32) (main_arg21 : FVec F S12 .f32) (main_arg22 : FVec F S12 .f32) (main_v2 : FVec F S2048x1 .f32) (main_v19 : FVec F S2048x2048 .f32) (main_v38 : FVec F S2048x2048 .f32) (main_v40 : FVec F S2048x2048 .f32) : IVec S2048x2048 1 × IVec S2048x768 1 × IVec S2048x16 1 × IVec S_ 1 × IVec S768x768 1 × IVec S768 1 × IVec S768x768 1 × IVec S768 1 × IVec S16x768 1 × IVec S768 1 × IVec S768 1 × IVec S768 1 × IVec S12 1 × IVec S12 1 :=
  let main_v41 : FVec F S2048x2048 .f32 := broadcastInDim S2048x2048 ![0, 1] bcast_S2048x1_S2048x2048_0_1 main_v2
  let main_v42 : FVec F S2048x2048 .f32 := mulf main_v40 main_v41
  let main_v43 : FVec F S2048x2048 .f32 := addf main_v38 main_v42
  let main_v44 : FVec F S2048x2048 .f32 := mulf main_v19 main_v19
  let main_v45 : FVec F S2048x2048 .f32 := Host.divf main_v43 main_v44
  let main_v46 : FVec F S2048x2048 .f32 := Host.sqrt main_v45
  let main_v47 : FVec F S_ .f32 := Host.sqrt main_arg2
  let main_cst_6 : FVec F S_ .f32 := constant S_ .f32 0x33D6BF95#32
  let main_v48 : FVec F S_ .f32 := maximumf main_v47 main_cst_6
  let main_cst_7 : FVec F S_ .f32 := constant S_ .f32 0x00000000#32
  let main_v49 : FVec F S2048x2048 .f32 := broadcastInDim S2048x2048 ![] bcast_S_S2048x2048 main_cst_7
  let main_v50 : IVec S2048x2048 1 := cmpf .oeq main_v46 main_v49
  let main_cst_8 : FVec F S_ .f32 := constant S_ .f32 0x33D6BF95#32
  let main_v51 : FVec F S2048x2048 .f32 := broadcastInDim S2048x2048 ![] bcast_S_S2048x2048 main_cst_8
  let main_v52 : IVec S2048x2048 1 := cmpf .ogt main_v46 main_v51
  let main_cst_9 : FVec F S_ .f32 := constant S_ .f32 0x3F7FFFFE#32
  let main_v53 : FVec F S2048x2048 .f32 := broadcastInDim S2048x2048 ![] bcast_S_S2048x2048 main_cst_9
  let main_v54 : IVec S2048x2048 1 := cmpf .ole main_v46 main_v53
  let main_v55 : IVec S2048x2048 1 := andi main_v52 main_v54
  let main_v56 : FVec F S2048x2048 .f32 := broadcastInDim S2048x2048 ![] bcast_S_S2048x2048 main_v48
  let main_v57 : FVec F S2048x2048 .f32 := mulf main_v56 main_v46
  let main_cst_10 : FVec F S_ .f32 := constant S_ .f32 0x3F7FFFFE#32
  let main_v58 : FVec F S2048x2048 .f32 := broadcastInDim S2048x2048 ![] bcast_S_S2048x2048 main_cst_10
  let main_v59 : IVec S2048x2048 1 := cmpf .ole main_v57 main_v58
  fn_part3 (F := F) main_arg0 main_arg1 main_arg2 main_arg3 main_arg4 main_arg5 main_arg6 main_arg9 main_arg10 main_arg17 main_arg18 main_arg21 main_arg22 main_v50 main_v55 main_v59

def fn_part1 {F : FTy → Type} [FloatOps F] (main_arg0 : FVec F S2048x768 .f32) (main_arg1 : FVec F S2048x16 .f32) (main_arg2 : FVec F S_ .f32) (main_arg3 : FVec F S768x768 .f32) (main_arg4 : FVec F S768 .f32) (main_arg5 : FVec F S768x768 .f32) (main_arg6 : FVec F S768 .f32) (main_arg9 : FVec F S16x768 .f32) (main_arg10 : FVec F S768 .f32) (main_arg17 : FVec F S768 .f32) (main_arg18 : FVec F S768 .f32) (main_arg21 : FVec F S12 .f32) (main_arg22 : FVec F S12 .f32) (main_v2 : FVec F S2048x1 .f32) (main_v3 : FVec F S1x2048 .f32) (main_v5 : FVec F S2048x2048 .f32) (main_v8 : FVec F S2048x2048 .f32) (main_v19 : FVec F S2048x2048 .f32) : IVec S2048x2048 1 × IVec S2048x768 1 × IVec S2048x16 1 × IVec S_ 1 × IVec S768x768 1 × IVec S768 1 × IVec S768x768 1 × IVec S768 1 × IVec S16x768 1 × IVec S768 1 × IVec S768 1 × IVec S768 1 × IVec S12 1 × IVec S12 1 :=
  let main_cst_3 : FVec F S_ .f32 := constant S_ .f32 0x3F800000#32
  let main_v20 : FVec F S2048x2048 .f32 := broadcastInDim S2048x2048 ![] bcast_S_S2048x2048 main_cst_3
  let main_v21 : FVec F S2048x2048 .f32 := subf main_v20 main_v8
  let main_v22 : FVec F S2048x1 .f32 := broadcastInDim S2048x1 ![] bcast_S_S2048x1 main_arg2
  let main_v23 : FVec F S2048x1 .f32 := mulf main_v22 main_v2
  let main_v24 : FVec F S2048x2048 .f32 := broadcastInDim S2048x2048 ![0, 1] bcast_S2048x1_S2048x2048_0_1 main_v23
  let main_v25 : FVec F S2048x2048 .f32 := addf main_v21 main_v24
  let main_v26 : FVec F S1x2048 .f32 := broadcastInDim S1x2048 ![] bcast_S_S1x2048 main_arg2
  let main_v27 : FVec F S1x2048 .f32 := mulf main_v26 main_v3
  let main_cst_4 : FVec F S_ .f32 := constant S_ .f32 0x3F800000#32
  let main_v28 : FVec F S1x2048 .f32 := broadcastInDim S1x2048 ![] bcast_S_S1x2048 main_cst_4
  let main_v29 : FVec F S1x2048 .f32 := subf main_v28 main_v27
  let main_v30 : FVec F S2048x2048 .f32 := mulf main_v25 main_v25
  let main_v31 : FVec F S2048x2048 .f32 := broadcastInDim S2048x2048 ![0, 1] bcast_S1x2048_S2048x2048_0_1 main_v3
  let main_v32 : FVec F S2048x2048 .f32 := mulf main_v30 main_v31
  let main_cst_5 : FVec F S_ .f32 := constant S_ .f32 0x40000000#32
  let main_v33 : FVec F S2048x2048 .f32 := broadcastInDim S2048x2048 ![] bcast_S_S2048x2048 main_cst_5
  let main_v34 : FVec F S2048x2048 .f32 := mulf main_v33 main_v25
  let main_v35 : FVec F S2048x2048 .f32 := broadcastInDim S2048x2048 ![0, 1] bcast_S1x2048_S2048x2048_0_1 main_v29
  let main_v36 : FVec F S2048x2048 .f32 := mulf main_v34 main_v35
  let main_v37 : FVec F S2048x2048 .f32 := mulf main_v36 main_v5
  let main_v38 : FVec F S2048x2048 .f32 := subf main_v32 main_v37
  let main_v39 : FVec F S1x2048 .f32 := mulf main_v29 main_v29
  let main_v40 : FVec F S2048x2048 .f32 := broadcastInDim S2048x2048 ![0, 1] bcast_S1x2048_S2048x2048_0_1 main_v39
  fn_part2 (F := F) main_arg0 main_arg1 main_arg2 main_arg3 main_arg4 main_arg5 main_arg6 main_arg9 main_arg10 main_arg17 main_arg18 main_arg21 main_arg22 main_v2 main_v19 main_v38 main_v40

def fn {F : FTy → Type} [FloatOps F] (main_arg0 : FVec F S2048x768 .f32) (main_arg1 : FVec F S2048x16 .f32) (main_arg2 : FVec F S_ .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S16x768 .f32) (main_arg10 : FVec F S768 .f32) (main_arg11 : FVec F S768x768 .f32) (main_arg12 : FVec F S768 .f32) (main_arg13 : FVec F S768x3072 .f32) (main_arg14 : FVec F S3072 .f32) (main_arg15 : FVec F S3072x768 .f32) (main_arg16 : FVec F S768 .f32) (main_arg17 : FVec F S768 .f32) (main_arg18 : FVec F S768 .f32) (main_arg19 : FVec F S768 .f32) (main_arg20 : FVec F S768 .f32) (main_arg21 : FVec F S12 .f32) (main_arg22 : FVec F S12 .f32) : IVec S2048x2048 1 × IVec S2048x768 1 × IVec S2048x16 1 × IVec S_ 1 × IVec S768x768 1 × IVec S768 1 × IVec S768x768 1 × IVec S768 1 × IVec S16x768 1 × IVec S768 1 × IVec S768 1 × IVec S768 1 × IVec S12 1 × IVec S12 1 :=
  let main_v0 : FVec F S2048x16 .f32 := mulf main_arg1 main_arg1
  let main_cst : FVec F S_ .f32 := constant S_ .f32 0x00000000#32
  let main_v1 : FVec F S2048 .f32 := (fun x v => Host.reduceAdd x v reducesTo_S2048x16_S2048_d1 h_S_) main_v0 main_cst
  let main_v2 : FVec F S2048x1 .f32 := broadcastInDim S2048x1 ![0] bcast_S2048_S2048x1_0 main_v1
  let main_v3 : FVec F S1x2048 .f32 := broadcastInDim S1x2048 ![1] bcast_S2048_S1x2048_1 main_v1
  let main_v4 : FVec F S16x2048 .f32 := (transpose S16x2048 [1, 0] · transposes_S2048x16_S16x2048_1_0) main_arg1
  let main_v5 : FVec F S2048x2048 .f32 := (fun l r => Host.dotGeneral dot_S2048x16_S16x2048_S2048x2048_1_0_0_1_n_n none l r) main_arg1 main_v4
  let main_cst_0 : FVec F S_ .f32 := constant S_ .f32 0x40000000#32
  let main_v6 : FVec F S_ .f32 := mulf main_cst_0 main_arg2
  let main_v7 : FVec F S2048x2048 .f32 := broadcastInDim S2048x2048 ![] bcast_S_S2048x2048 main_v6
  let main_v8 : FVec F S2048x2048 .f32 := mulf main_v7 main_v5
  let main_cst_1 : FVec F S_ .f32 := constant S_ .f32 0x3F800000#32
  let main_v9 : FVec F S2048x2048 .f32 := broadcastInDim S2048x2048 ![] bcast_S_S2048x2048 main_cst_1
  let main_v10 : FVec F S2048x2048 .f32 := subf main_v9 main_v8
  let main_v11 : FVec F S_ .f32 := mulf main_arg2 main_arg2
  let main_v12 : FVec F S2048x1 .f32 := broadcastInDim S2048x1 ![] bcast_S_S2048x1 main_v11
  let main_v13 : FVec F S2048x1 .f32 := mulf main_v12 main_v2
  let main_v14 : FVec F S2048x2048 .f32 := broadcastInDim S2048x2048 ![0, 1] bcast_S2048x1_S2048x2048_0_1 main_v13
  let main_v15 : FVec F S2048x2048 .f32 := broadcastInDim S2048x2048 ![0, 1] bcast_S1x2048_S2048x2048_0_1 main_v3
  let main_v16 : FVec F S2048x2048 .f32 := mulf main_v14 main_v15
  let main_v17 : FVec F S2048x2048 .f32 := addf main_v10 main_v16
  let main_cst_2 : FVec F S_ .f32 := constant S_ .f32 0x33D6BF95#32
  let main_v18 : FVec F S2048x2048 .f32 := broadcastInDim S2048x2048 ![] bcast_S_S2048x2048 main_cst_2
  let main_v19 : FVec F S2048x2048 .f32 := maximumf main_v17 main_v18
  fn_part1 (F := F) main_arg0 main_arg1 main_arg2 main_arg3 main_arg4 main_arg5 main_arg6 main_arg9 main_arg10 main_arg17 main_arg18 main_arg21 main_arg22 main_v2 main_v3 main_v5 main_v8 main_v19
-- ==== Kernel.lean ====
abbrev S2048x768 : Shape := ⟨2, ![2048, 768]⟩
abbrev S2048x16 : Shape := ⟨2, ![2048, 16]⟩
abbrev S_ : Shape := ⟨0, ![]⟩
abbrev S768x768 : Shape := ⟨2, ![768, 768]⟩
abbrev S768 : Shape := ⟨1, ![768]⟩
abbrev S16x768 : Shape := ⟨2, ![16, 768]⟩
abbrev S768x3072 : Shape := ⟨2, ![768, 3072]⟩
abbrev S3072 : Shape := ⟨1, ![3072]⟩
abbrev S3072x768 : Shape := ⟨2, ![3072, 768]⟩
abbrev S12 : Shape := ⟨1, ![12]⟩
abbrev S1x1 : Shape := ⟨2, ![1, 1]⟩
abbrev S768x2304 : Shape := ⟨2, ![768, 2304]⟩
abbrev S2304 : Shape := ⟨1, ![2304]⟩
abbrev S1x2304 : Shape := ⟨2, ![1, 2304]⟩
abbrev S1x768 : Shape := ⟨2, ![1, 768]⟩
abbrev S256x768 : Shape := ⟨2, ![256, 768]⟩
abbrev S256 : Shape := ⟨1, ![256]⟩
abbrev S256x1 : Shape := ⟨2, ![256, 1]⟩
abbrev S256x2304 : Shape := ⟨2, ![256, 2304]⟩
abbrev S768x192 : Shape := ⟨2, ![768, 192]⟩
abbrev S192x24576 : Shape := ⟨2, ![192, 24576]⟩
abbrev S16x2048 : Shape := ⟨2, ![16, 2048]⟩
abbrev S16x64 : Shape := ⟨2, ![16, 64]⟩
abbrev S64x16 : Shape := ⟨2, ![64, 16]⟩
abbrev S1 : Shape := ⟨1, ![1]⟩
abbrev S2 : Shape := ⟨1, ![2]⟩
abbrev S12x16 : Shape := ⟨2, ![12, 16]⟩
abbrev S192 : Shape := ⟨1, ![192]⟩
abbrev S1x192 : Shape := ⟨2, ![1, 192]⟩
abbrev S1x12 : Shape := ⟨2, ![1, 12]⟩
abbrev S256x16 : Shape := ⟨2, ![256, 16]⟩
abbrev S1x16 : Shape := ⟨2, ![1, 16]⟩
abbrev S1x2048 : Shape := ⟨2, ![1, 2048]⟩
abbrev S256x2048 : Shape := ⟨2, ![256, 2048]⟩
abbrev S256x192 : Shape := ⟨2, ![256, 192]⟩
abbrev S256x24576 : Shape := ⟨2, ![256, 24576]⟩
abbrev S256x64 : Shape := ⟨2, ![256, 64]⟩
abbrev S2048x64 : Shape := ⟨2, ![2048, 64]⟩
abbrev S1x3072 : Shape := ⟨2, ![1, 3072]⟩
abbrev S256x3072 : Shape := ⟨2, ![256, 3072]⟩

abbrev nBuf : Space → Nat
  | .hbm => 222
  | .vmem => 38
  | .smem => 0
  | _ => 0

abbrev hbmTy0_0 (i : Nat) : BufTy := match i % 128 with
  | 0 => ⟨S2048x768, .f32⟩
  | 1 => ⟨S2048x16, .f32⟩
  | 2 => ⟨S_, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S16x768, .f32⟩
  | 10 => ⟨S768, .f32⟩
  | 11 => ⟨S768x768, .f32⟩
  | 12 => ⟨S768, .f32⟩
  | 13 => ⟨S768x3072, .f32⟩
  | 14 => ⟨S3072, .f32⟩
  | 15 => ⟨S3072x768, .f32⟩
  | 16 => ⟨S768, .f32⟩
  | 17 => ⟨S768, .f32⟩
  | 18 => ⟨S768, .f32⟩
  | 19 => ⟨S768, .f32⟩
  | 20 => ⟨S768, .f32⟩
  | 21 => ⟨S12, .f32⟩
  | 22 => ⟨S12, .f32⟩
  | 23 => ⟨S1x1, .f32⟩
  | 24 => ⟨S768x2304, .f32⟩
  | 25 => ⟨S768x2304, .bf16⟩
  | 26 => ⟨S2304, .f32⟩
  | 27 => ⟨S1x2304, .f32⟩
  | 28 => ⟨S1x768, .f32⟩
  | 29 => ⟨S1x768, .f32⟩
  | 30 => ⟨S2048x768, .bf16⟩
  | 31 => ⟨S2048x768, .bf16⟩
  | 32 => ⟨S2048x768, .bf16⟩
  | 33 => ⟨S_, .f32⟩
  | 34 => ⟨S768x192, .f32⟩
  | 35 => ⟨S_, .bf16⟩
  | 36 => ⟨S192x24576, .bf16⟩
  | 37 => ⟨S16x2048, .f32⟩
  | 38 => ⟨S16x2048, .bf16⟩
  | 39 => ⟨S16x64, .f32⟩
  | 40 => ⟨S64x16, .f32⟩
  | 41 => ⟨S_, .i32⟩
  | 42 => ⟨S1, .i32⟩
  | 43 => ⟨S_, .i32⟩
  | 44 => ⟨S1, .i32⟩
  | 45 => ⟨S2, .i32⟩
  | 46 => ⟨S768x192, .f32⟩
  | 47 => ⟨S_, .i32⟩
  | 48 => ⟨S1, .i32⟩
  | 49 => ⟨S_, .i32⟩
  | 50 => ⟨S1, .i32⟩
  | 51 => ⟨S2, .i32⟩
  | 52 => ⟨S192x24576, .bf16⟩
  | 53 => ⟨S16x64, .f32⟩
  | 54 => ⟨S64x16, .f32⟩
  | 55 => ⟨S_, .i32⟩
  | 56 => ⟨S1, .i32⟩
  | 57 => ⟨S_, .i32⟩
  | 58 => ⟨S1, .i32⟩
  | 59 => ⟨S2, .i32⟩
  | 60 => ⟨S768x192, .f32⟩
  | 61 => ⟨S_, .i32⟩
  | 62 => ⟨S1, .i32⟩
  | 63 => ⟨S_, .i32⟩
  | 64 => ⟨S1, .i32⟩
  | 65 => ⟨S2, .i32⟩
  | 66 => ⟨S192x24576, .bf16⟩
  | 67 => ⟨S16x64, .f32⟩
  | 68 => ⟨S64x16, .f32⟩
  | 69 => ⟨S_, .i32⟩
  | 70 => ⟨S1, .i32⟩
  | 71 => ⟨S_, .i32⟩
  | 72 => ⟨S1, .i32⟩
  | 73 => ⟨S2, .i32⟩
  | 74 => ⟨S768x192, .f32⟩
  | 75 => ⟨S_, .i32⟩
  | 76 => ⟨S1, .i32⟩
  | 77 => ⟨S_, .i32⟩
  | 78 => ⟨S1, .i32⟩
  | 79 => ⟨S2, .i32⟩
  | 80 => ⟨S192x24576, .bf16⟩
  | 81 => ⟨S16x64, .f32⟩
  | 82 => ⟨S64x16, .f32⟩
  | 83 => ⟨S_, .i32⟩
  | 84 => ⟨S1, .i32⟩
  | 85 => ⟨S_, .i32⟩
  | 86 => ⟨S1, .i32⟩
  | 87 => ⟨S2, .i32⟩
  | 88 => ⟨S768x192, .f32⟩
  | 89 => ⟨S_, .i32⟩
  | 90 => ⟨S1, .i32⟩
  | 91 => ⟨S_, .i32⟩
  | 92 => ⟨S1, .i32⟩
  | 93 => ⟨S2, .i32⟩
  | 94 => ⟨S192x24576, .bf16⟩
  | 95 => ⟨S16x64, .f32⟩
  | 96 => ⟨S64x16, .f32⟩
  | 97 => ⟨S_, .i32⟩
  | 98 => ⟨S1, .i32⟩
  | 99 => ⟨S_, .i32⟩
  | 100 => ⟨S1, .i32⟩
  | 101 => ⟨S2, .i32⟩
  | 102 => ⟨S768x192, .f32⟩
  | 103 => ⟨S_, .i32⟩
  | 104 => ⟨S1, .i32⟩
  | 105 => ⟨S_, .i32⟩
  | 106 => ⟨S1, .i32⟩
  | 107 => ⟨S2, .i32⟩
  | 108 => ⟨S192x24576, .bf16⟩
  | 109 => ⟨S16x64, .f32⟩
  | 110 => ⟨S64x16, .f32⟩
  | 111 => ⟨S_, .i32⟩
  | 112 => ⟨S1, .i32⟩
  | 113 => ⟨S_, .i32⟩
  | 114 => ⟨S1, .i32⟩
  | 115 => ⟨S2, .i32⟩
  | 116 => ⟨S768x192, .f32⟩
  | 117 => ⟨S_, .i32⟩
  | 118 => ⟨S1, .i32⟩
  | 119 => ⟨S_, .i32⟩
  | 120 => ⟨S1, .i32⟩
  | 121 => ⟨S2, .i32⟩
  | 122 => ⟨S192x24576, .bf16⟩
  | 123 => ⟨S16x64, .f32⟩
  | 124 => ⟨S64x16, .f32⟩
  | 125 => ⟨S_, .i32⟩
  | 126 => ⟨S1, .i32⟩
  | 127 => ⟨S_, .i32⟩
  | _ => ⟨S2048x768, .f32⟩

abbrev hbmTy0_1 (i : Nat) : BufTy := match i % 128 with
  | 0 => ⟨S1, .i32⟩
  | 1 => ⟨S2, .i32⟩
  | 2 => ⟨S768x192, .f32⟩
  | 3 => ⟨S_, .i32⟩
  | 4 => ⟨S1, .i32⟩
  | 5 => ⟨S_, .i32⟩
  | 6 => ⟨S1, .i32⟩
  | 7 => ⟨S2, .i32⟩
  | 8 => ⟨S192x24576, .bf16⟩
  | 9 => ⟨S16x64, .f32⟩
  | 10 => ⟨S64x16, .f32⟩
  | 11 => ⟨S_, .i32⟩
  | 12 => ⟨S1, .i32⟩
  | 13 => ⟨S_, .i32⟩
  | 14 => ⟨S1, .i32⟩
  | 15 => ⟨S2, .i32⟩
  | 16 => ⟨S768x192, .f32⟩
  | 17 => ⟨S_, .i32⟩
  | 18 => ⟨S1, .i32⟩
  | 19 => ⟨S_, .i32⟩
  | 20 => ⟨S1, .i32⟩
  | 21 => ⟨S2, .i32⟩
  | 22 => ⟨S192x24576, .bf16⟩
  | 23 => ⟨S16x64, .f32⟩
  | 24 => ⟨S64x16, .f32⟩
  | 25 => ⟨S_, .i32⟩
  | 26 => ⟨S1, .i32⟩
  | 27 => ⟨S_, .i32⟩
  | 28 => ⟨S1, .i32⟩
  | 29 => ⟨S2, .i32⟩
  | 30 => ⟨S768x192, .f32⟩
  | 31 => ⟨S_, .i32⟩
  | 32 => ⟨S1, .i32⟩
  | 33 => ⟨S_, .i32⟩
  | 34 => ⟨S1, .i32⟩
  | 35 => ⟨S2, .i32⟩
  | 36 => ⟨S192x24576, .bf16⟩
  | 37 => ⟨S16x64, .f32⟩
  | 38 => ⟨S64x16, .f32⟩
  | 39 => ⟨S_, .i32⟩
  | 40 => ⟨S1, .i32⟩
  | 41 => ⟨S_, .i32⟩
  | 42 => ⟨S1, .i32⟩
  | 43 => ⟨S2, .i32⟩
  | 44 => ⟨S768x192, .f32⟩
  | 45 => ⟨S_, .i32⟩
  | 46 => ⟨S1, .i32⟩
  | 47 => ⟨S_, .i32⟩
  | 48 => ⟨S1, .i32⟩
  | 49 => ⟨S2, .i32⟩
  | 50 => ⟨S192x24576, .bf16⟩
  | 51 => ⟨S16x64, .f32⟩
  | 52 => ⟨S64x16, .f32⟩
  | 53 => ⟨S_, .i32⟩
  | 54 => ⟨S1, .i32⟩
  | 55 => ⟨S_, .i32⟩
  | 56 => ⟨S1, .i32⟩
  | 57 => ⟨S2, .i32⟩
  | 58 => ⟨S768x192, .f32⟩
  | 59 => ⟨S_, .i32⟩
  | 60 => ⟨S1, .i32⟩
  | 61 => ⟨S_, .i32⟩
  | 62 => ⟨S1, .i32⟩
  | 63 => ⟨S2, .i32⟩
  | 64 => ⟨S192x24576, .bf16⟩
  | 65 => ⟨S16x64, .f32⟩
  | 66 => ⟨S64x16, .f32⟩
  | 67 => ⟨S_, .i32⟩
  | 68 => ⟨S1, .i32⟩
  | 69 => ⟨S_, .i32⟩
  | 70 => ⟨S1, .i32⟩
  | 71 => ⟨S2, .i32⟩
  | 72 => ⟨S768x192, .f32⟩
  | 73 => ⟨S_, .i32⟩
  | 74 => ⟨S1, .i32⟩
  | 75 => ⟨S_, .i32⟩
  | 76 => ⟨S1, .i32⟩
  | 77 => ⟨S2, .i32⟩
  | 78 => ⟨S192x24576, .bf16⟩
  | 79 => ⟨S12x16, .f32⟩
  | 80 => ⟨S192, .f32⟩
  | 81 => ⟨S1x192, .f32⟩
  | 82 => ⟨S768x192, .bf16⟩
  | 83 => ⟨S1x12, .f32⟩
  | 84 => ⟨S2048x768, .f32⟩
  | 85 => ⟨S768x768, .bf16⟩
  | 86 => ⟨S1x768, .f32⟩
  | 87 => ⟨S1x768, .f32⟩
  | 88 => ⟨S1x768, .f32⟩
  | 89 => ⟨S768x3072, .bf16⟩
  | 90 => ⟨S1x3072, .f32⟩
  | 91 => ⟨S3072x768, .bf16⟩
  | 92 => ⟨S1x768, .f32⟩
  | 93 => ⟨S2048x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S1x768, .f32⟩
  | .local _ .vmem, ⟨4, _⟩ => ⟨S768x2304, .bf16⟩
  | .local _ .vmem, ⟨5, _⟩ => ⟨S1x2304, .f32⟩
  | .local _ .vmem, ⟨6, _⟩ => ⟨S256x768, .bf16⟩
  | .local _ .vmem, ⟨7, _⟩ => ⟨S256x768, .bf16⟩
  | .local _ .vmem, ⟨8, _⟩ => ⟨S256x768, .bf16⟩
  | .local _ .vmem, ⟨9, _⟩ => ⟨S256x768, .bf16⟩
  | .local _ .vmem, ⟨10, _⟩ => ⟨S256x768, .bf16⟩
  | .local _ .vmem, ⟨11, _⟩ => ⟨S256x768, .bf16⟩
  | .local _ .vmem, ⟨12, _⟩ => ⟨S256x768, .bf16⟩
  | .local _ .vmem, ⟨13, _⟩ => ⟨S256x768, .bf16⟩
  | .local _ .vmem, ⟨14, _⟩ => ⟨S2048x16, .f32⟩
  | .local _ .vmem, ⟨15, _⟩ => ⟨S2048x768, .bf16⟩
  | .local _ .vmem, ⟨16, _⟩ => ⟨S2048x768, .bf16⟩
  | .local _ .vmem, ⟨17, _⟩ => ⟨S768x192, .bf16⟩
  | .local _ .vmem, ⟨18, _⟩ => ⟨S192x24576, .bf16⟩
  | .local _ .vmem, ⟨19, _⟩ => ⟨S1x192, .f32⟩
  | .local _ .vmem, ⟨20, _⟩ => ⟨S1x1, .f32⟩
  | .local _ .vmem, ⟨21, _⟩ => ⟨S1x12, .f32⟩
  | .local _ .vmem, ⟨22, _⟩ => ⟨S256x768, .f32⟩
  | .local _ .vmem, ⟨23, _⟩ => ⟨S256x768, .f32⟩
  | .local _ .vmem, ⟨24, _⟩ => ⟨S256x768, .f32⟩
  | .local _ .vmem, ⟨25, _⟩ => ⟨S256x768, .f32⟩
  | .local _ .vmem, ⟨26, _⟩ => ⟨S256x768, .f32⟩
  | .local _ .vmem, ⟨27, _⟩ => ⟨S256x768, .f32⟩
  | .local _ .vmem, ⟨28, _⟩ => ⟨S768x768, .bf16⟩
  | .local _ .vmem, ⟨29, _⟩ => ⟨S1x768, .f32⟩
  | .local _ .vmem, ⟨30, _⟩ => ⟨S1x768, .f32⟩
  | .local _ .vmem, ⟨31, _⟩ => ⟨S1x768, .f32⟩
  | .local _ .vmem, ⟨32, _⟩ => ⟨S768x3072, .bf16⟩
  | .local _ .vmem, ⟨33, _⟩ => ⟨S1x3072, .f32⟩
  | .local _ .vmem, ⟨34, _⟩ => ⟨S3072x768, .bf16⟩
  | .local _ .vmem, ⟨35, _⟩ => ⟨S1x768, .f32⟩
  | .local _ .vmem, ⟨36, _⟩ => ⟨S256x768, .f32⟩
  | .local _ .vmem, ⟨37, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7_0 : Ref sig .tc := ⟨.hbm, 30, rfl⟩
abbrev main_v7_1 : Ref sig .tc := ⟨.hbm, 31, rfl⟩
abbrev main_v7_2 : Ref sig .tc := ⟨.hbm, 32, rfl⟩
abbrev main_cst : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_c_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_8 : Ref sig .tc := ⟨.hbm, 69, rfl⟩
abbrev main_v34 : Ref sig .tc := ⟨.hbm, 70, rfl⟩
abbrev main_c_9 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_c_11 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_12 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_14 : Ref sig .tc := ⟨.hbm, 89, rfl⟩
abbrev main_v48 : Ref sig .tc := ⟨.hbm, 90, rfl⟩
abbrev main_c_15 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_16 : Ref sig .tc := ⟨.hbm, 97, rfl⟩
abbrev main_v54 : Ref sig .tc := ⟨.hbm, 98, rfl⟩
abbrev main_c_17 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_18 : Ref sig .tc := ⟨.hbm, 103, rfl⟩
abbrev main_v58 : Ref sig .tc := ⟨.hbm, 104, rfl⟩
abbrev main_c_19 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_20 : Ref sig .tc := ⟨.hbm, 111, rfl⟩
abbrev main_v64 : Ref sig .tc := ⟨.hbm, 112, rfl⟩
abbrev main_c_21 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_22 : Ref sig .tc := ⟨.hbm, 117, rfl⟩
abbrev main_v68 : Ref sig .tc := ⟨.hbm, 118, rfl⟩
abbrev main_c_23 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_c_24 : Ref sig .tc := ⟨.hbm, 125, rfl⟩
abbrev main_v74 : Ref sig .tc := ⟨.hbm, 126, rfl⟩
abbrev main_c_25 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_c_26 : Ref sig .tc := ⟨.hbm, 131, rfl⟩
abbrev main_v78 : Ref sig .tc := ⟨.hbm, 132, rfl⟩
abbrev main_c_27 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_c_28 : Ref sig .tc := ⟨.hbm, 139, rfl⟩
abbrev main_v84 : Ref sig .tc := ⟨.hbm, 140, rfl⟩
abbrev main_c_29 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_c_30 : Ref sig .tc := ⟨.hbm, 145, rfl⟩
abbrev main_v88 : Ref sig .tc := ⟨.hbm, 146, rfl⟩
abbrev main_c_31 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_c_32 : Ref sig .tc := ⟨.hbm, 153, rfl⟩
abbrev main_v94 : Ref sig .tc := ⟨.hbm, 154, rfl⟩
abbrev main_c_33 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_34 : Ref sig .tc := ⟨.hbm, 159, rfl⟩
abbrev main_v98 : Ref sig .tc := ⟨.hbm, 160, rfl⟩
abbrev main_c_35 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_c_36 : Ref sig .tc := ⟨.hbm, 167, rfl⟩
abbrev main_v104 : Ref sig .tc := ⟨.hbm, 168, rfl⟩
abbrev main_c_37 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_c_38 : Ref sig .tc := ⟨.hbm, 173, rfl⟩
abbrev main_v108 : Ref sig .tc := ⟨.hbm, 174, rfl⟩
abbrev main_c_39 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_c_40 : Ref sig .tc := ⟨.hbm, 181, rfl⟩
abbrev main_v114 : Ref sig .tc := ⟨.hbm, 182, rfl⟩
abbrev main_c_41 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_c_42 : Ref sig .tc := ⟨.hbm, 187, rfl⟩
abbrev main_v118 : Ref sig .tc := ⟨.hbm, 188, rfl⟩
abbrev main_c_43 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_c_44 : Ref sig .tc := ⟨.hbm, 195, rfl⟩
abbrev main_v124 : Ref sig .tc := ⟨.hbm, 196, rfl⟩
abbrev main_c_45 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_c_46 : Ref sig .tc := ⟨.hbm, 201, rfl⟩
abbrev main_v128 : Ref sig .tc := ⟨.hbm, 202, rfl⟩
abbrev main_c_47 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg10_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem10_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c256_i32 : BitVec 32 := 256#32
  let v6 : BitVec 32 := Scalar.muli arg0 c256_i32
  let v7 : Index := Scalar.indexCast v6
  let c0_4 : Index := 0#32
  ![v7.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x192 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192x24576 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x12 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S768x3072 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x3072 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S3072x768 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x768 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S256x768 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2048x768 : Shape := ⟨2, ![2048, 768]⟩
abbrev S2048x16 : Shape := ⟨2, ![2048, 16]⟩
abbrev S_ : Shape := ⟨0, ![]⟩
abbrev S768x768 : Shape := ⟨2, ![768, 768]⟩
abbrev S768 : Shape := ⟨1, ![768]⟩
abbrev S16x768 : Shape := ⟨2, ![16, 768]⟩
abbrev S768x3072 : Shape := ⟨2, ![768, 3072]⟩
abbrev S3072 : Shape := ⟨1, ![3072]⟩
abbrev S3072x768 : Shape := ⟨2, ![3072, 768]⟩
abbrev S12 : Shape := ⟨1, ![12]⟩
abbrev S2048 : Shape := ⟨1, ![2048]⟩
abbrev S2048x1 : Shape := ⟨2, ![2048, 1]⟩
abbrev S1x768 : Shape := ⟨2, ![1, 768]⟩
abbrev S1x2048x16 : Shape := ⟨3, ![1, 2048, 16]⟩
abbrev S2048x1x16 : Shape := ⟨3, ![2048, 1, 16]⟩
abbrev S1x2048 : Shape := ⟨2, ![1, 2048]⟩
abbrev S1x2048x1 : Shape := ⟨3, ![1, 2048, 1]⟩
abbrev S2048x1x1 : Shape := ⟨3, ![2048, 1, 1]⟩
abbrev S2048x2048x16 : Shape := ⟨3, ![2048, 2048, 16]⟩
abbrev S2048x2048 : Shape := ⟨2, ![2048, 2048]⟩
abbrev S2048x2048x1 : Shape := ⟨3, ![2048, 2048, 1]⟩
abbrev S2048x16x1 : Shape := ⟨3, ![2048, 16, 1]⟩
abbrev S2048x16x768 : Shape := ⟨3, ![2048, 16, 768]⟩
abbrev S2048x16x16 : Shape := ⟨3, ![2048, 16, 16]⟩
abbrev S1x1x768 : Shape := ⟨3, ![1, 1, 768]⟩
abbrev S2048x16x12x64 : Shape := ⟨4, ![2048, 16, 12, 64]⟩
abbrev S2048x12x64 : Shape := ⟨3, ![2048, 12, 64]⟩
abbrev S2048x12x16 : Shape := ⟨3, ![2048, 12, 16]⟩
abbrev S1x12x1 : Shape := ⟨3, ![1, 12, 1]⟩
abbrev S2048x12 : Shape := ⟨2, ![2048, 12]⟩
abbrev S2048x12x1 : Shape := ⟨3, ![2048, 12, 1]⟩
abbrev S2048x3072 : Shape := ⟨2, ![2048, 3072]⟩
abbrev S1x3072 : Shape := ⟨2, ![1, 3072]⟩

abbrev nBuf : Space → Nat
  | .hbm => 438
  | .vmem => 0
  | .smem => 0
  | _ => 0

abbrev hbmTy0_0 (i : Nat) : BufTy := match i % 128 with
  | 0 => ⟨S2048x768, .f32⟩
  | 1 => ⟨S2048x16, .f32⟩
  | 2 => ⟨S_, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S16x768, .f32⟩
  | 10 => ⟨S768, .f32⟩
  | 11 => ⟨S768x768, .f32⟩
  | 12 => ⟨S768, .f32⟩
  | 13 => ⟨S768x3072, .f32⟩
  | 14 => ⟨S3072, .f32⟩
  | 15 => ⟨S3072x768, .f32⟩
  | 16 => ⟨S768, .f32⟩
  | 17 => ⟨S768, .f32⟩
  | 18 => ⟨S768, .f32⟩
  | 19 => ⟨S768, .f32⟩
  | 20 => ⟨S768, .f32⟩
  | 21 => ⟨S12, .f32⟩
  | 22 => ⟨S12, .f32⟩
  | 23 => ⟨S_, .f32⟩
  | 24 => ⟨S2048, .f32⟩
  | 25 => ⟨S2048x1, .f32⟩
  | 26 => ⟨S_, .f32⟩
  | 27 => ⟨S2048x1, .f32⟩
  | 28 => ⟨S2048x1, .f32⟩
  | 29 => ⟨S_, .i32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S2048x768, .f32⟩
  | 37 => ⟨S2048x768, .f32⟩
  | 38 => ⟨S2048x768, .f32⟩
  | 39 => ⟨S_, .f32⟩
  | 40 => ⟨S_, .f32⟩
  | 41 => ⟨S_, .f32⟩
  | 42 => ⟨S_, .f32⟩
  | 43 => ⟨S2048, .f32⟩
  | 44 => ⟨S2048x1, .f32⟩
  | 45 => ⟨S2048x1, .f32⟩
  | 46 => ⟨S2048x1, .f32⟩
  | 47 => ⟨S_, .f32⟩
  | 48 => ⟨S_, .i1⟩
  | 49 => ⟨S_, .f32⟩
  | 50 => ⟨S_, .f32⟩
  | 51 => ⟨S2048x1, .f32⟩
  | 52 => ⟨S2048x1, .f32⟩
  | 53 => ⟨S2048x768, .f32⟩
  | 54 => ⟨S2048x768, .f32⟩
  | 55 => ⟨S_, .f32⟩
  | 56 => ⟨S2048x1, .f32⟩
  | 57 => ⟨S2048x1, .f32⟩
  | 58 => ⟨S2048x1, .f32⟩
  | 59 => ⟨S2048x768, .f32⟩
  | 60 => ⟨S2048x768, .f32⟩
  | 61 => ⟨S1x768, .f32⟩
  | 62 => ⟨S2048x768, .f32⟩
  | 63 => ⟨S2048x768, .f32⟩
  | 64 => ⟨S1x768, .f32⟩
  | 65 => ⟨S2048x768, .f32⟩
  | 66 => ⟨S2048x768, .f32⟩
  | 67 => ⟨S2048x768, .f32⟩
  | 68 => ⟨S1x768, .f32⟩
  | 69 => ⟨S2048x768, .f32⟩
  | 70 => ⟨S2048x768, .f32⟩
  | 71 => ⟨S2048x768, .f32⟩
  | 72 => ⟨S1x768, .f32⟩
  | 73 => ⟨S2048x768, .f32⟩
  | 74 => ⟨S2048x768, .f32⟩
  | 75 => ⟨S2048x768, .f32⟩
  | 76 => ⟨S1x768, .f32⟩
  | 77 => ⟨S2048x768, .f32⟩
  | 78 => ⟨S2048x768, .f32⟩
  | 79 => ⟨S1x2048x16, .f32⟩
  | 80 => ⟨S2048x1x16, .f32⟩
  | 81 => ⟨S_, .f32⟩
  | 82 => ⟨S_, .f32⟩
  | 83 => ⟨S_, .f32⟩
  | 84 => ⟨S_, .f32⟩
  | 85 => ⟨S2048x1x16, .f32⟩
  | 86 => ⟨S1x2048x16, .f32⟩
  | 87 => ⟨S_, .f32⟩
  | 88 => ⟨S1x2048, .f32⟩
  | 89 => ⟨S1x2048x1, .f32⟩
  | 90 => ⟨S2048x1x16, .f32⟩
  | 91 => ⟨S_, .f32⟩
  | 92 => ⟨S2048x1, .f32⟩
  | 93 => ⟨S2048x1x1, .f32⟩
  | 94 => ⟨S2048x2048x16, .f32⟩
  | 95 => ⟨S2048x2048x16, .f32⟩
  | 96 => ⟨S2048x2048x16, .f32⟩
  | 97 => ⟨S_, .f32⟩
  | 98 => ⟨S2048x2048, .f32⟩
  | 99 => ⟨S2048x2048x1, .f32⟩
  | 100 => ⟨S_, .f32⟩
  | 101 => ⟨S_, .f32⟩
  | 102 => ⟨S2048x2048x1, .f32⟩
  | 103 => ⟨S2048x2048x1, .f32⟩
  | 104 => ⟨S_, .f32⟩
  | 105 => ⟨S2048x2048x1, .f32⟩
  | 106 => ⟨S2048x2048x1, .f32⟩
  | 107 => ⟨S2048x1x1, .f32⟩
  | 108 => ⟨S2048x1x1, .f32⟩
  | 109 => ⟨S2048x2048x1, .f32⟩
  | 110 => ⟨S2048x2048x1, .f32⟩
  | 111 => ⟨S2048x2048x16, .f32⟩
  | 112 => ⟨S2048x2048x16, .f32⟩
  | 113 => ⟨S2048x2048x16, .f32⟩
  | 114 => ⟨S1x2048x1, .f32⟩
  | 115 => ⟨S1x2048x1, .f32⟩
  | 116 => ⟨S_, .f32⟩
  | 117 => ⟨S1x2048x1, .f32⟩
  | 118 => ⟨S1x2048x1, .f32⟩
  | 119 => ⟨S2048x2048x16, .f32⟩
  | 120 => ⟨S2048x2048x16, .f32⟩
  | 121 => ⟨S2048x2048x16, .f32⟩
  | 122 => ⟨S2048x2048x16, .f32⟩
  | 123 => ⟨S_, .f32⟩
  | 124 => ⟨S_, .f32⟩
  | 125 => ⟨S2048x2048x1, .f32⟩
  | 126 => ⟨S2048x2048x1, .f32⟩
  | 127 => ⟨S_, .f32⟩
  | _ => ⟨S2048x768, .f32⟩

abbrev hbmTy0_1 (i : Nat) : BufTy := match i % 128 with
  | 0 => ⟨S2048x2048x1, .f32⟩
  | 1 => ⟨S2048x2048x1, .f32⟩
  | 2 => ⟨S_, .f32⟩
  | 3 => ⟨S1x2048x1, .f32⟩
  | 4 => ⟨S1x2048x1, .f32⟩
  | 5 => ⟨S2048x2048x1, .f32⟩
  | 6 => ⟨S2048x2048x1, .f32⟩
  | 7 => ⟨S2048x2048x1, .f32⟩
  | 8 => ⟨S2048x2048x1, .f32⟩
  | 9 => ⟨S_, .f32⟩
  | 10 => ⟨S_, .f32⟩
  | 11 => ⟨S2048x2048x1, .f32⟩
  | 12 => ⟨S2048x2048x1, .f32⟩
  | 13 => ⟨S2048x2048x16, .f32⟩
  | 14 => ⟨S2048x2048x16, .f32⟩
  | 15 => ⟨S2048x2048x16, .f32⟩
  | 16 => ⟨S_, .f32⟩
  | 17 => ⟨S2048x2048, .f32⟩
  | 18 => ⟨S2048x2048x1, .f32⟩
  | 19 => ⟨S2048x2048x1, .f32⟩
  | 20 => ⟨S_, .f32⟩
  | 21 => ⟨S_, .f32⟩
  | 22 => ⟨S2048x2048x1, .f32⟩
  | 23 => ⟨S2048x2048x1, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2048x2048x1, .f32⟩
  | 31 => ⟨S2048x2048x1, .f32⟩
  | 32 => ⟨S_, .f32⟩
  | 33 => ⟨S2048x2048x1, .f32⟩
  | 34 => ⟨S2048x2048x1, .f32⟩
  | 35 => ⟨S2048x2048x16, .f32⟩
  | 36 => ⟨S2048x2048x16, .f32⟩
  | 37 => ⟨S2048x2048x16, .f32⟩
  | 38 => ⟨S_, .f32⟩
  | 39 => ⟨S2048x2048, .f32⟩
  | 40 => ⟨S2048x2048, .f32⟩
  | 41 => ⟨S_, .f32⟩
  | 42 => ⟨S_, .f32⟩
  | 43 => ⟨S_, .f32⟩
  | 44 => ⟨S2048x2048, .f32⟩
  | 45 => ⟨S2048x2048, .f32⟩
  | 46 => ⟨S_, .f32⟩
  | 47 => ⟨S2048x2048, .f32⟩
  | 48 => ⟨S2048x2048, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .f32⟩
  | 55 => ⟨S_, .f32⟩
  | 56 => ⟨S2048x2048, .f32⟩
  | 57 => ⟨S2048x2048, .f32⟩
  | 58 => ⟨S2048x2048, .f32⟩
  | 59 => ⟨S2048x2048, .f32⟩
  | 60 => ⟨S2048x2048, .f32⟩
  | 61 => ⟨S2048x16, .f32⟩
  | 62 => ⟨S2048x16, .i32⟩
  | 63 => ⟨S_, .i32⟩
  | 64 => ⟨S2048x16, .i32⟩
  | 65 => ⟨S2048x16, .i1⟩
  | 66 => ⟨S_, .i32⟩
  | 67 => ⟨S2048x16, .i32⟩
  | 68 => ⟨S2048x16, .i32⟩
  | 69 => ⟨S2048x16, .i32⟩
  | 70 => ⟨S2048x16x1, .i32⟩
  | 71 => ⟨S2048x16x768, .f32⟩
  | 72 => ⟨S_, .i32⟩
  | 73 => ⟨S2048x16, .i32⟩
  | 74 => ⟨S2048x16, .i1⟩
  | 75 => ⟨S_, .i32⟩
  | 76 => ⟨S2048x16, .i32⟩
  | 77 => ⟨S2048x16, .i32⟩
  | 78 => ⟨S2048x16, .i32⟩
  | 79 => ⟨S2048x16x1, .i32⟩
  | 80 => ⟨S2048x16x768, .f32⟩
  | 81 => ⟨S_, .i32⟩
  | 82 => ⟨S2048x16, .i32⟩
  | 83 => ⟨S2048x16, .i1⟩
  | 84 => ⟨S_, .i32⟩
  | 85 => ⟨S2048x16, .i32⟩
  | 86 => ⟨S2048x16, .i32⟩
  | 87 => ⟨S2048x16, .i32⟩
  | 88 => ⟨S2048x16x1, .i32⟩
  | 89 => ⟨S2048x16x16, .f32⟩
  | 90 => ⟨S2048x1x16, .f32⟩
  | 91 => ⟨S2048x1x16, .f32⟩
  | 92 => ⟨S2048x1x16, .f32⟩
  | 93 => ⟨S_, .f32⟩
  | 94 => ⟨S2048x1, .f32⟩
  | 95 => ⟨S2048x1x1, .f32⟩
  | 96 => ⟨S2048x16x16, .f32⟩
  | 97 => ⟨S_, .f32⟩
  | 98 => ⟨S2048x16, .f32⟩
  | 99 => ⟨S2048x16x1, .f32⟩
  | 100 => ⟨S2048x16x16, .f32⟩
  | 101 => ⟨S2048x16x16, .f32⟩
  | 102 => ⟨S_, .f32⟩
  | 103 => ⟨S2048x16, .f32⟩
  | 104 => ⟨S2048x16x1, .f32⟩
  | 105 => ⟨S_, .f32⟩
  | 106 => ⟨S_, .f32⟩
  | 107 => ⟨S2048x16x1, .f32⟩
  | 108 => ⟨S2048x16x1, .f32⟩
  | 109 => ⟨S_, .f32⟩
  | 110 => ⟨S2048x16x1, .f32⟩
  | 111 => ⟨S2048x16x1, .f32⟩
  | 112 => ⟨S2048x16x1, .f32⟩
  | 113 => ⟨S2048x16x1, .f32⟩
  | 114 => ⟨S2048x16x1, .f32⟩
  | 115 => ⟨S2048x16x16, .f32⟩
  | 116 => ⟨S2048x16x16, .f32⟩
  | 117 => ⟨S2048x16x16, .f32⟩
  | 118 => ⟨S2048x1x1, .f32⟩
  | 119 => ⟨S2048x1x1, .f32⟩
  | 120 => ⟨S_, .f32⟩
  | 121 => ⟨S2048x1x1, .f32⟩
  | 122 => ⟨S2048x1x1, .f32⟩
  | 123 => ⟨S2048x16x16, .f32⟩
  | 124 => ⟨S2048x16x16, .f32⟩
  | 125 => ⟨S2048x16x16, .f32⟩
  | 126 => ⟨S_, .f32⟩
  | 127 => ⟨S_, .f32⟩
  | _ => ⟨S2048x768, .f32⟩

abbrev hbmTy0_2 (i : Nat) : BufTy := match i % 128 with
  | 0 => ⟨S2048x16x1, .f32⟩
  | 1 => ⟨S2048x16x1, .f32⟩
  | 2 => ⟨S_, .f32⟩
  | 3 => ⟨S2048x16x1, .f32⟩
  | 4 => ⟨S2048x16x1, .f32⟩
  | 5 => ⟨S_, .f32⟩
  | 6 => ⟨S2048x1x1, .f32⟩
  | 7 => ⟨S2048x1x1, .f32⟩
  | 8 => ⟨S2048x16x1, .f32⟩
  | 9 => ⟨S2048x16x1, .f32⟩
  | 10 => ⟨S2048x16x1, .f32⟩
  | 11 => ⟨S_, .f32⟩
  | 12 => ⟨S_, .f32⟩
  | 13 => ⟨S2048x16x1, .f32⟩
  | 14 => ⟨S2048x16x1, .f32⟩
  | 15 => ⟨S2048x16x16, .f32⟩
  | 16 => ⟨S2048x16x16, .f32⟩
  | 17 => ⟨S2048x16x16, .f32⟩
  | 18 => ⟨S_, .f32⟩
  | 19 => ⟨S2048x16, .f32⟩
  | 20 => ⟨S2048x16x1, .f32⟩
  | 21 => ⟨S2048x16x1, .f32⟩
  | 22 => ⟨S_, .f32⟩
  | 23 => ⟨S_, .f32⟩
  | 24 => ⟨S2048x16x1, .f32⟩
  | 25 => ⟨S2048x16x1, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S2048x16x1, .f32⟩
  | 33 => ⟨S2048x16x1, .f32⟩
  | 34 => ⟨S_, .f32⟩
  | 35 => ⟨S2048x16x1, .f32⟩
  | 36 => ⟨S2048x16x1, .f32⟩
  | 37 => ⟨S2048x16x16, .f32⟩
  | 38 => ⟨S2048x16x16, .f32⟩
  | 39 => ⟨S_, .f32⟩
  | 40 => ⟨S_, .f32⟩
  | 41 => ⟨S_, .f32⟩
  | 42 => ⟨S_, .f32⟩
  | 43 => ⟨S2048x16x16, .f32⟩
  | 44 => ⟨S_, .f32⟩
  | 45 => ⟨S2048x16, .f32⟩
  | 46 => ⟨S2048x16x1, .f32⟩
  | 47 => ⟨S2048x16x1, .f32⟩
  | 48 => ⟨S_, .f32⟩
  | 49 => ⟨S2048x16x1, .f32⟩
  | 50 => ⟨S2048x16x1, .i1⟩
  | 51 => ⟨S_, .f32⟩
  | 52 => ⟨S_, .f32⟩
  | 53 => ⟨S2048x16x1, .f32⟩
  | 54 => ⟨S2048x16x1, .f32⟩
  | 55 => ⟨S2048x16x1, .f32⟩
  | 56 => ⟨S2048x16x1, .f32⟩
  | 57 => ⟨S_, .f32⟩
  | 58 => ⟨S2048x16x1, .f32⟩
  | 59 => ⟨S2048x16x1, .f32⟩
  | 60 => ⟨S2048x16x1, .f32⟩
  | 61 => ⟨S2048x16x1, .f32⟩
  | 62 => ⟨S2048x16x1, .f32⟩
  | 63 => ⟨S2048x16x16, .f32⟩
  | 64 => ⟨S2048x16x16, .f32⟩
  | 65 => ⟨S_, .f32⟩
  | 66 => ⟨S2048x16x16, .f32⟩
  | 67 => ⟨S2048x16x16, .f32⟩
  | 68 => ⟨S2048x16x16, .f32⟩
  | 69 => ⟨S2048x16x16, .i1⟩
  | 70 => ⟨S2048x16x16, .f32⟩
  | 71 => ⟨S2048x16x768, .f32⟩
  | 72 => ⟨S1x1x768, .f32⟩
  | 73 => ⟨S2048x16x768, .f32⟩
  | 74 => ⟨S2048x16x768, .f32⟩
  | 75 => ⟨S2048x16x12x64, .f32⟩
  | 76 => ⟨S2048x12x64, .f32⟩
  | 77 => ⟨S2048x16x12x64, .f32⟩
  | 78 => ⟨S2048x16x12x64, .f32⟩
  | 79 => ⟨S2048x12x16, .f32⟩
  | 80 => ⟨S2048x12x16, .f32⟩
  | 81 => ⟨S_, .f32⟩
  | 82 => ⟨S2048x12x16, .f32⟩
  | 83 => ⟨S2048x12x16, .f32⟩
  | 84 => ⟨S1x12x1, .f32⟩
  | 85 => ⟨S2048x12x16, .f32⟩
  | 86 => ⟨S2048x12x16, .f32⟩
  | 87 => ⟨S1x12x1, .f32⟩
  | 88 => ⟨S2048x12x16, .f32⟩
  | 89 => ⟨S2048x12x16, .f32⟩
  | 90 => ⟨S2048x12x16, .f32⟩
  | 91 => ⟨S_, .f32⟩
  | 92 => ⟨S2048x12, .f32⟩
  | 93 => ⟨S_, .f32⟩
  | 94 => ⟨S2048x12, .f32⟩
  | 95 => ⟨S2048x12, .f32⟩
  | 96 => ⟨S2048x12x1, .f32⟩
  | 97 => ⟨S2048x12x16, .f32⟩
  | 98 => ⟨S2048x12x16, .f32⟩
  | 99 => ⟨S2048x12x16, .f32⟩
  | 100 => ⟨S_, .f32⟩
  | 101 => ⟨S2048x12, .f32⟩
  | 102 => ⟨S2048x12x1, .f32⟩
  | 103 => ⟨S2048x12x16, .f32⟩
  | 104 => ⟨S2048x12x16, .f32⟩
  | 105 => ⟨S2048x12x64, .f32⟩
  | 106 => ⟨S2048x768, .f32⟩
  | 107 => ⟨S2048x768, .f32⟩
  | 108 => ⟨S2048x768, .f32⟩
  | 109 => ⟨S1x768, .f32⟩
  | 110 => ⟨S2048x768, .f32⟩
  | 111 => ⟨S2048x768, .f32⟩
  | 112 => ⟨S_, .f32⟩
  | 113 => ⟨S2048, .f32⟩
  | 114 => ⟨S2048x1, .f32⟩
  | 115 => ⟨S_, .f32⟩
  | 116 => ⟨S2048x1, .f32⟩
  | 117 => ⟨S2048x1, .f32⟩
  | 118 => ⟨S_, .i32⟩
  | 119 => ⟨S_, .f32⟩
  | 120 => ⟨S2048, .f32⟩
  | 121 => ⟨S2048x1, .f32⟩
  | 122 => ⟨S_, .f32⟩
  | 123 => ⟨S2048x1, .f32⟩
  | 124 => ⟨S2048x1, .f32⟩
  | 125 => ⟨S2048x768, .f32⟩
  | 126 => ⟨S2048x768, .f32⟩
  | 127 => ⟨S2048x768, .f32⟩
  | _ => ⟨S2048x768, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S2048, .f32⟩
  | 5 => ⟨S2048x1, .f32⟩
  | 6 => ⟨S2048x1, .f32⟩
  | 7 => ⟨S2048x1, .f32⟩
  | 8 => ⟨S_, .f32⟩
  | 9 => ⟨S_, .i1⟩
  | 10 => ⟨S_, .f32⟩
  | 11 => ⟨S_, .f32⟩
  | 12 => ⟨S2048x1, .f32⟩
  | 13 => ⟨S2048x1, .f32⟩
  | 14 => ⟨S2048x768, .f32⟩
  | 15 => ⟨S2048x768, .f32⟩
  | 16 => ⟨S_, .f32⟩
  | 17 => ⟨S2048x1, .f32⟩
  | 18 => ⟨S2048x1, .f32⟩
  | 19 => ⟨S2048x1, .f32⟩
  | 20 => ⟨S2048x768, .f32⟩
  | 21 => ⟨S2048x768, .f32⟩
  | 22 => ⟨S1x768, .f32⟩
  | 23 => ⟨S2048x768, .f32⟩
  | 24 => ⟨S2048x768, .f32⟩
  | 25 => ⟨S1x768, .f32⟩
  | 26 => ⟨S2048x768, .f32⟩
  | 27 => ⟨S2048x768, .f32⟩
  | 28 => ⟨S2048x3072, .f32⟩
  | 29 => ⟨S1x3072, .f32⟩
  | 30 => ⟨S2048x3072, .f32⟩
  | 31 => ⟨S2048x3072, .f32⟩
  | 32 => ⟨S2048x3072, .f32⟩
  | 33 => ⟨S2048x3072, .f32⟩
  | 34 => ⟨S_, .f32⟩
  | 35 => ⟨S2048x3072, .f32⟩
  | 36 => ⟨S2048x3072, .f32⟩
  | 37 => ⟨S2048x3072, .f32⟩
  | 38 => ⟨S_, .f32⟩
  | 39 => ⟨S2048x3072, .f32⟩
  | 40 => ⟨S2048x3072, .f32⟩
  | 41 => ⟨S2048x3072, .f32⟩
  | 42 => ⟨S_, .f32⟩
  | 43 => ⟨S2048x3072, .f32⟩
  | 44 => ⟨S2048x3072, .f32⟩
  | 45 => ⟨S_, .f32⟩
  | 46 => ⟨S2048x3072, .f32⟩
  | 47 => ⟨S2048x3072, .f32⟩
  | 48 => ⟨S2048x3072, .f32⟩
  | 49 => ⟨S2048x768, .f32⟩
  | 50 => ⟨S1x768, .f32⟩
  | 51 => ⟨S2048x768, .f32⟩
  | 52 => ⟨S2048x768, .f32⟩
  | 53 => ⟨S2048x768, .f32⟩
  | _ => ⟨S2048x768, .f32⟩

abbrev hbmTy (i : Nat) : BufTy := match i / 128 with
  | 0 => hbmTy0_0 i
  | 1 => hbmTy0_1 i
  | 2 => hbmTy0_2 i
  | 3 => hbmTy0_3 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_cst_0 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_cst_3 : Ref sig .tc := ⟨.hbm, 47, rfl⟩
abbrev main_call0_v13 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst_1 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_2 : Ref sig .tc := ⟨.hbm, 82, rfl⟩
abbrev main_call1_v0 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_3 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_cst_4 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_5 : Ref sig .tc := ⟨.hbm, 97, rfl⟩
abbrev main_v44 : Ref sig .tc := ⟨.hbm, 98, rfl⟩
abbrev main_v45 : Ref sig .tc := ⟨.hbm, 99, rfl⟩
abbrev main_cst_6 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_7 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_cst_8 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_9 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_cst_10 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_11 : Ref sig .tc := ⟨.hbm, 137, rfl⟩
abbrev main_call2_v0 : Ref sig .tc := ⟨.hbm, 138, rfl⟩
abbrev main_call2_v1 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_call3_v0 : Ref sig .tc := ⟨.hbm, 143, rfl⟩
abbrev main_call3_cst : Ref sig .tc := ⟨.hbm, 144, rfl⟩
abbrev main_call3_v1 : Ref sig .tc := ⟨.hbm, 145, rfl⟩
abbrev main_call3_v2 : Ref sig .tc := ⟨.hbm, 146, rfl⟩
abbrev main_v81 : Ref sig .tc := ⟨.hbm, 147, rfl⟩
abbrev main_cst_12 : Ref sig .tc := ⟨.hbm, 148, rfl⟩
abbrev main_call4_v0 : Ref sig .tc := ⟨.hbm, 149, rfl⟩
abbrev main_call4_v1 : Ref sig .tc := ⟨.hbm, 150, rfl⟩
abbrev main_v82 : Ref sig .tc := ⟨.hbm, 151, rfl⟩
abbrev main_v83 : Ref sig .tc := ⟨.hbm, 152, rfl⟩
abbrev main_cst_13 : Ref sig .tc := ⟨.hbm, 153, rfl⟩
abbrev main_call5_v0 : Ref sig .tc := ⟨.hbm, 154, rfl⟩
abbrev main_v84 : Ref sig .tc := ⟨.hbm, 155, rfl⟩
abbrev main_cst_14 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_cst_15 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_call6_v0 : Ref sig .tc := ⟨.hbm, 165, rfl⟩
abbrev main_call6_cst : Ref sig .tc := ⟨.hbm, 166, rfl⟩
abbrev main_call6_v1 : Ref sig .tc := ⟨.hbm, 167, rfl⟩
abbrev main_v92 : Ref sig .tc := ⟨.hbm, 168, rfl⟩
abbrev main_cst_16 : Ref sig .tc := ⟨.hbm, 169, rfl⟩
abbrev main_cst_17 : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_cst_18 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_cst_19 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_values : Ref sig .tc := ⟨.hbm, 189, rfl⟩
abbrev main_indices : Ref sig .tc := ⟨.hbm, 190, rfl⟩
abbrev main_c_20 : Ref sig .tc := ⟨.hbm, 191, rfl⟩
abbrev main_v104 : Ref sig .tc := ⟨.hbm, 192, rfl⟩
abbrev main_v105 : Ref sig .tc := ⟨.hbm, 193, rfl⟩
abbrev main_c_21 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_c_22 : Ref sig .tc := ⟨.hbm, 200, rfl⟩
abbrev main_v111 : Ref sig .tc := ⟨.hbm, 201, rfl⟩
abbrev main_v112 : Ref sig .tc := ⟨.hbm, 202, rfl⟩
abbrev main_c_23 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_c_24 : Ref sig .tc := ⟨.hbm, 209, rfl⟩
abbrev main_v118 : Ref sig .tc := ⟨.hbm, 210, rfl⟩
abbrev main_v119 : Ref sig .tc := ⟨.hbm, 211, rfl⟩
abbrev main_c_25 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_cst_26 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_cst_27 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_cst_28 : Ref sig .tc := ⟨.hbm, 230, rfl⟩
abbrev main_v135 : Ref sig .tc := ⟨.hbm, 231, rfl⟩
abbrev main_v136 : Ref sig .tc := ⟨.hbm, 232, rfl⟩
abbrev main_cst_29 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_cst_30 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_cst_31 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_cst_32 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_cst_33 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_cst_34 : Ref sig .tc := ⟨.hbm, 267, rfl⟩
abbrev main_call8_v0 : Ref sig .tc := ⟨.hbm, 268, rfl⟩
abbrev main_call8_v1 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_call9_v0 : Ref sig .tc := ⟨.hbm, 273, rfl⟩
abbrev main_call9_cst : Ref sig .tc := ⟨.hbm, 274, rfl⟩
abbrev main_call9_v1 : Ref sig .tc := ⟨.hbm, 275, rfl⟩
abbrev main_call9_v2 : Ref sig .tc := ⟨.hbm, 276, rfl⟩
abbrev main_v169 : Ref sig .tc := ⟨.hbm, 277, rfl⟩
abbrev main_cst_35 : Ref sig .tc := ⟨.hbm, 278, rfl⟩
abbrev main_call10_v0 : Ref sig .tc := ⟨.hbm, 279, rfl⟩
abbrev main_call10_v1 : Ref sig .tc := ⟨.hbm, 280, rfl⟩
abbrev main_v170 : Ref sig .tc := ⟨.hbm, 281, rfl⟩
abbrev main_v171 : Ref sig .tc := ⟨.hbm, 282, rfl⟩
abbrev main_cst_36 : Ref sig .tc := ⟨.hbm, 283, rfl⟩
abbrev main_call11_v0 : Ref sig .tc := ⟨.hbm, 284, rfl⟩
abbrev main_v172 : Ref sig .tc := ⟨.hbm, 285, rfl⟩
abbrev main_cst_37 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_38 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_cst_39 : Ref sig .tc := ⟨.hbm, 296, rfl⟩
abbrev main_call12_v0 : Ref sig .tc := ⟨.hbm, 297, rfl⟩
abbrev main_v181 : Ref sig .tc := ⟨.hbm, 298, rfl⟩
abbrev main_call13_v0 : Ref sig .tc := ⟨.hbm, 299, rfl⟩
abbrev main_call13_cst : Ref sig .tc := ⟨.hbm, 300, rfl⟩
abbrev main_call13_v1 : Ref sig .tc := ⟨.hbm, 301, rfl⟩
abbrev main_call13_v2 : Ref sig .tc := ⟨.hbm, 302, rfl⟩
abbrev main_v182 : Ref sig .tc := ⟨.hbm, 303, rfl⟩
abbrev main_cst_40 : Ref sig .tc := ⟨.hbm, 304, rfl⟩
abbrev main_v183 : Ref sig .tc := ⟨.hbm, 305, rfl⟩
abbrev main_v184 : Ref sig .tc := ⟨.hbm, 306, rfl⟩
abbrev main_cst_41 : Ref sig .tc := ⟨.hbm, 307, rfl⟩
abbrev main_call14_v0 : Ref sig .tc := ⟨.hbm, 308, rfl⟩
abbrev main_call14_v1 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_cst_42 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_cst_43 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_call15_v0 : Ref sig .tc := ⟨.hbm, 325, rfl⟩
abbrev main_v198 : Ref sig .tc := ⟨.hbm, 326, rfl⟩
abbrev main_v199 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_v203 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_cst_44 : Ref sig .tc := ⟨.hbm, 337, rfl⟩
abbrev main_v209 : Ref sig .tc := ⟨.hbm, 338, rfl⟩
abbrev main_v210 : Ref sig .tc := ⟨.hbm, 339, rfl⟩
abbrev main_v211 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_v217 : Ref sig .tc := ⟨.hbm, 346, rfl⟩
abbrev main_cst_45 : Ref sig .tc := ⟨.hbm, 347, rfl⟩
abbrev main_v218 : Ref sig .tc := ⟨.hbm, 348, rfl⟩
abbrev main_cst_46 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_cst_47 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_cst_48 : Ref sig .tc := ⟨.hbm, 368, rfl⟩
abbrev main_v236 : Ref sig .tc := ⟨.hbm, 369, rfl⟩
abbrev main_v237 : Ref sig .tc := ⟨.hbm, 370, rfl⟩
abbrev main_cst_49 : Ref sig .tc := ⟨.hbm, 371, rfl⟩
abbrev main_v238 : Ref sig .tc := ⟨.hbm, 372, rfl⟩
abbrev main_v239 : Ref sig .tc := ⟨.hbm, 373, rfl⟩
abbrev main_c_50 : Ref sig .tc := ⟨.hbm, 374, rfl⟩
abbrev main_call16_cst : Ref sig .tc := ⟨.hbm, 375, rfl⟩
abbrev main_call16_v0 : Ref sig .tc := ⟨.hbm, 376, rfl⟩
abbrev main_call16_v1 : Ref sig .tc := ⟨.hbm, 377, rfl⟩
abbrev main_call16_cst_0 : Ref sig .tc := ⟨.hbm, 378, rfl⟩
abbrev main_call16_v2 : Ref sig .tc := ⟨.hbm, 379, rfl⟩
abbrev main_call16_v3 : Ref sig .tc := ⟨.hbm, 380, rfl⟩
abbrev main_call16_v4 : Ref sig .tc := ⟨.hbm, 381, rfl⟩
abbrev main_call16_v5 : Ref sig .tc := ⟨.hbm, 382, rfl⟩
abbrev main_call16_v6 : Ref sig .tc := ⟨.hbm, 383, rfl⟩
abbrev main_call16_v7 : Ref sig .tc := ⟨.hbm, 384, rfl⟩
abbrev main_call16_cst_1 : Ref sig .tc := ⟨.hbm, 385, rfl⟩
abbrev main_call16_v8 : Ref sig .tc := ⟨.hbm, 386, rfl⟩
abbrev main_call16_cst_2 : Ref sig .tc := ⟨.hbm, 387, rfl⟩
abbrev main_call16_v9 : Ref sig .tc := ⟨.hbm, 388, rfl⟩
abbrev main_call16_v10 : Ref sig .tc := ⟨.hbm, 389, rfl⟩
abbrev main_call16_v11 : Ref sig .tc := ⟨.hbm, 390, rfl⟩
abbrev main_call16_v12 : Ref sig .tc := ⟨.hbm, 391, rfl⟩
abbrev main_call16_cst_3 : Ref sig .tc := ⟨.hbm, 392, rfl⟩
abbrev main_call16_v13 : Ref sig .tc := ⟨.hbm, 393, rfl⟩
abbrev main_call16_cst_4 : Ref sig .tc := ⟨.hbm, 394, rfl⟩
abbrev main_call16_call0_v0 : Ref sig .tc := ⟨.hbm, 395, rfl⟩
abbrev main_call16_call0_v1 : Ref sig .tc := ⟨.hbm, 396, rfl⟩
abbrev main_v240 : Ref sig .tc := ⟨.hbm, 397, rfl⟩
abbrev main_v241 : Ref sig .tc := ⟨.hbm, 398, rfl⟩
abbrev main_v242 : Ref sig .tc := ⟨.hbm, 399, rfl⟩
abbrev main_cst_51 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_v246 : Ref sig .tc := ⟨.hbm, 404, rfl⟩
abbrev main_v247 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_v256 : Ref sig .tc := ⟨.hbm, 414, rfl⟩
abbrev main_v257 : Ref sig .tc := ⟨.hbm, 415, rfl⟩
abbrev main_v258 : Ref sig .tc := ⟨.hbm, 416, rfl⟩
abbrev main_v259 : Ref sig .tc := ⟨.hbm, 417, rfl⟩
abbrev main_cst_52 : Ref sig .tc := ⟨.hbm, 418, rfl⟩
abbrev main_v260 : Ref sig .tc := ⟨.hbm, 419, rfl⟩
abbrev main_v261 : Ref sig .tc := ⟨.hbm, 420, rfl⟩
abbrev main_v262 : Ref sig .tc := ⟨.hbm, 421, rfl⟩
abbrev main_cst_53 : Ref sig .tc := ⟨.hbm, 422, rfl⟩
abbrev main_v263 : Ref sig .tc := ⟨.hbm, 423, rfl⟩
abbrev main_v264 : Ref sig .tc := ⟨.hbm, 424, rfl⟩
abbrev main_v265 : Ref sig .tc := ⟨.hbm, 425, rfl⟩
abbrev main_cst_54 : Ref sig .tc := ⟨.hbm, 426, rfl⟩
abbrev main_v266 : Ref sig .tc := ⟨.hbm, 427, rfl⟩
abbrev main_v267 : Ref sig .tc := ⟨.hbm, 428, rfl⟩
abbrev main_cst_55 : Ref sig .tc := ⟨.hbm, 429, rfl⟩
abbrev main_v268 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_v272 : Ref sig .tc := ⟨.hbm, 434, rfl⟩
abbrev main_v273 : Ref sig .tc := ⟨.hbm, 435, rfl⟩
abbrev main_v274 : Ref sig .tc := ⟨.hbm, 436, rfl⟩
abbrev main_v275 : Ref sig .tc := ⟨.hbm, 437, rfl⟩

abbrev nD : Nat := 1
abbrev τ : Topo := Topo.v7x

variable {F : FTy → Type} [FloatOps F]
-- ==== Proof.Rows.lean ====
/- The row functions that the first and the last of the kernel's calls and the reference's layer norms and dense layers
   compute, and that they compute them: the blocks of the kernel and the stages of the reference, read at an index. -/
module

public import proofs.«01_k».proof.Proof.Gen.KernelIdeal.Skeleton
public import proofs.«01_k».proof.Proof.Gen.ReferenceIdeal.Read
public import Idealize.ShloMosaic.Lib.Pointwise
public import Idealize.ShloMosaic.Lib.IdealHost

@[expose] public section

set_option maxRecDepth 16384

noncomputable section

namespace Cert.KernelIdeal.Att

open Idealize.ShloMosaic

/-- The mean of a row of 768 entries. -/
def meanRow (x : Fin 768 → EReal) : EReal := Ideal.div (∑ k, x k) (Ideal.ofBits .f32 0x44400000#32)

/-- The variance of a row of 768 entries. -/
def varRow (x : Fin 768 → EReal) : EReal :=
  Ideal.div (∑ k, (x k - meanRow x) * (x k - meanRow x)) (Ideal.ofBits .f32 0x44400000#32)

/-- The layer norm of a row: centred, divided by its deviation, scaled and shifted. -/
def lnRow (x s b : Fin 768 → EReal) (l : Fin 768) : EReal :=
  Ideal.div (x l - meanRow x) (Ideal.sqrt (varRow x + Ideal.ofBits .f32 0x358637BD#32)) * s l + b l

/-- A row through a dense layer. -/
def denseRow {n m : ℕ} (x : Fin n → EReal) (W : Fin n → Fin m → EReal) (b : Fin m → EReal) (l : Fin m) : EReal :=
  ∑ k, x k * W k l + b l

/-- The unit's activation, in its form through the hyperbolic tangent. -/
def act (h : EReal) : EReal :=
  h * (Ideal.ofBits .f32 0x3F000000#32
    * (1 + Ideal.tanh (Ideal.ofBits .f32 0x3F4C422A#32 * (h + Ideal.ofBits .f32 0x3D372713#32 * (h * (h * h))))))

/-- A row plus the attention's row through the output layer. -/
def resRow (x a : Fin 768 → EReal) (W : Fin 768 → Fin 768 → EReal) (b : Fin 768 → EReal) (l : Fin 768) : EReal :=
  x l + ∑ k, a k * W k l + b l

/-- A row plus its two dense layers behind a layer norm. -/
def ffnRow (y s b : Fin 768 → EReal) (W1 : Fin 768 → Fin 3072 → EReal) (b1 : Fin 3072 → EReal)
    (W2 : Fin 3072 → Fin 768 → EReal) (b2 : Fin 768 → EReal) (l : Fin 768) : EReal :=
  y l + ∑ u, act (denseRow (lnRow y s b) W1 b1 u) * W2 u l + b2 l

/-- The pattern of the row's length is a positive number, and nothing taken off it leaves it as it is. -/
theorem len_sub : Ideal.ofBits .f32 0x44400000#32 - (FloatOps.sitofp (F := Ideal) .f32 0#32 : EReal) = Ideal.ofBits .f32 0x44400000#32
    ∧ 0 < Ideal.ofBits .f32 0x44400000#32 := by
  have h : Ideal.ofBits .f32 0x44400000#32 = ((768 : ℝ) : EReal) := by
    simp [Ideal.ofBits, Ideal.ieee, -EReal.coe_mul]; norm_num
  have h0 : (FloatOps.sitofp (F := Ideal) .f32 0#32 : EReal) = ((0 : ℝ) : EReal) := by
    show (((0#32 : BitVec 32).toInt : ℝ) : EReal) = _
    simp
  rw [h, h0]
  refine ⟨?_, ?_⟩
  · rw [← EReal.coe_sub, sub_zero]
  · exact EReal.coe_pos.mpr (by norm_num)

section Kernel

open Cert.KernelIdeal Cert.KernelIdeal.Gen

/-- The first call's joint block: each row's layer norm through the joined dense layer. -/
theorem pay_qkv (x0 : Vec Ideal S256x768 .f32) (x1 x2 : Vec Ideal S1x768 .f32) (x3 : Vec Ideal S768x2304 .bf16)
    (x4 : Vec Ideal S1x2304 .f32) (r : Fin 256) (l : Fin 2304) :
    k0_pay2 x0 x1 x2 x3 x4 (ix2 r l)
      = denseRow (lnRow (fun k => x0 (ix2 r k)) (fun k => x1 (ix2 0 k)) fun k => x2 (ix2 0 k)) (fun k l => x3 (ix2 k l))
          (fun l => x4 (ix2 0 l)) l := by
  pointwise [k0_pay2, dot_S256x768_S768x2304_S256x2304_1_0_0_1_n_n]
  rfl

/-- The last call's block of rows before its layer norm. -/
theorem pay_res (x0 x1 : Vec Ideal S256x768 .f32) (x2 : Vec Ideal S768x768 .bf16) (x3 : Vec Ideal S1x768 .f32) (r : Fin 256)
    (l : Fin 768) :
    k2_pay2 x0 x1 x2 x3 (ix2 r l)
      = resRow (fun k => x0 (ix2 r k)) (fun k => x1 (ix2 r k)) (fun k l => x2 (ix2 k l)) (fun l => x3 (ix2 0 l)) l := by
  pointwise [k2_pay2, dot_S256x768_S768x768_S256x768_1_0_0_1_n_n]
  rfl

/-- The last call's block of rows behind its layer norm. -/
theorem pay_ln (x0 x1 : Vec Ideal S256x768 .f32) (x2 : Vec Ideal S768x768 .bf16) (x3 x4 x5 : Vec Ideal S1x768 .f32)
    (r : Fin 256) (l : Fin 768) :
    k2_pay3 x0 x1 x2 x3 x4 x5 (ix2 r l)
      = lnRow (fun k => k2_pay2 x0 x1 x2 x3 (ix2 r k)) (fun k => x4 (ix2 0 k)) (fun k => x5 (ix2 0 k)) l := by
  unfold k2_pay3
  generalize k2_pay2 x0 x1 x2 x3 = y
  pointwise
  rfl

/-- The last call's block of results. -/
theorem pay_ffn (x0 x1 : Vec Ideal S256x768 .f32) (x2 : Vec Ideal S768x768 .bf16) (x3 x4 x5 : Vec Ideal S1x768 .f32)
    (x6 : Vec Ideal S768x3072 .bf16) (x7 : Vec Ideal S1x3072 .f32) (x8 : Vec Ideal S3072x768 .bf16)
    (x9 : Vec Ideal S1x768 .f32) (r : Fin 256) (l : Fin 768) :
    k2_pay1 (k2_pay2 x0 x1 x2 x3) (k2_pay3 x0 x1 x2 x3 x4 x5) (k2_pay4 x6) x7 x8 x9 (ix2 r l)
      = ffnRow (resRow (fun k => x0 (ix2 r k)) (fun k => x1 (ix2 r k)) (fun k l => x2 (ix2 k l)) (fun l => x3 (ix2 0 l)))
          (fun k => x4 (ix2 0 k)) (fun k => x5 (ix2 0 k)) (fun k u => x6 (ix2 k u)) (fun u => x7 (ix2 0 u))
          (fun u l => x8 (ix2 u l)) (fun l => x9 (ix2 0 l)) l := by
  have hy := pay_res x0 x1 x2 x3 r
  have hl := pay_ln x0 x1 x2 x3 x4 x5 r
  generalize k2_pay3 x0 x1 x2 x3 x4 x5 = z at *
  generalize k2_pay2 x0 x1 x2 x3 = y at *
  simp only [hy] at hl
  pointwise [k2_pay1, k2_pay4, dot_S256x768_S768x3072_S256x3072_1_0_0_1_n_n, dot_S256x3072_S3072x768_S256x768_1_0_0_1_n_n]
  simp only [hl, hy]
  rfl

end Kernel

section Reference

open Cert.ReferenceIdeal Cert.ReferenceIdeal.Gen Cert.ReferenceIdeal.Read

variable (x0 : (⟨S2048x768, .f32⟩ : BufTy).Contents (Elt Ideal)) (x1 : (⟨S2048x16, .f32⟩ : BufTy).Contents (Elt Ideal))
  (x2 : (⟨S_, .f32⟩ : BufTy).Contents (Elt Ideal)) (x3 x5 x7 x11 : (⟨S768x768, .f32⟩ : BufTy).Contents (Elt Ideal))
  (x4 x6 x8 x10 x12 x16 x17 x18 x19 x20 : (⟨S768, .f32⟩ : BufTy).Contents (Elt Ideal))
  (x9 : (⟨S16x768, .f32⟩ : BufTy).Contents (Elt Ideal)) (x13 : (⟨S768x3072, .f32⟩ : BufTy).Contents (Elt Ideal))
  (x14 : (⟨S3072, .f32⟩ : BufTy).Contents (Elt Ideal)) (x15 : (⟨S3072x768, .f32⟩ : BufTy).Contents (Elt Ideal))
  (x21 x22 : (⟨S12, .f32⟩ : BufTy).Contents (Elt Ideal)) (i : Fin 2048) (l : Fin 768)

/-- The reference's first layer norm. -/
theorem ref_ln1 : val_main_v17 (F := Ideal) x0 x17 x18 (ix2 i l)
    = lnRow (fun k => x0 (ix2 i k)) (fun k => x17 (ix1 k)) (fun k => x18 (ix1 k)) l := by
  pointwise [
    val_main_cst, val_main_v0, val_main_v1, val_main_cst_0, val_main_v2, val_main_v3, val_main_c, val_main_call0_cst,
    val_main_call0_v0, val_main_call0_v1, val_main_call0_cst_0, val_main_call0_v2, val_main_call0_v3,
    val_main_call0_v4, val_main_call0_v5, val_main_call0_v6, val_main_call0_v7, val_main_call0_cst_1,
    val_main_call0_v8, val_main_call0_cst_2, val_main_call0_v9, val_main_call0_v10, val_main_call0_v11,
    val_main_call0_v12, val_main_call0_cst_3, val_main_call0_v13, val_main_call0_cst_4, val_main_call0_call0_v0,
    val_main_call0_call0_v1, val_main_v4, val_main_v5, val_main_v6, val_main_cst_1, val_main_v7, val_main_v8,
    val_main_v9, val_main_v10, val_main_v11, val_main_v12, val_main_v13, val_main_v14, val_main_v15, val_main_v16,
    val_main_v17]
  simp only [len_sub.1, if_pos len_sub.2]
  rfl

/-- The reference's queries, keys and values. -/
theorem ref_q : val_main_v21 (F := Ideal) x0 x3 x4 x17 x18 (ix2 i l)
    = denseRow (lnRow (fun k => x0 (ix2 i k)) (fun k => x17 (ix1 k)) fun k => x18 (ix1 k)) (fun k l => x3 (ix2 k l))
        (fun l => x4 (ix1 l)) l := by
  have h := ref_ln1 x0 x17 x18 i
  unfold val_main_v21 val_main_v18
  generalize val_main_v17 (F := Ideal) x0 x17 x18 = y at *
  pointwise [val_main_v20, val_main_v19, dot_S2048x768_S768x768_S2048x768_1_0_0_1_n_n]
  simp only [h]
  rfl

theorem ref_k : val_main_v25 (F := Ideal) x0 x5 x6 x17 x18 (ix2 i l)
    = denseRow (lnRow (fun k => x0 (ix2 i k)) (fun k => x17 (ix1 k)) fun k => x18 (ix1 k)) (fun k l => x5 (ix2 k l))
        (fun l => x6 (ix1 l)) l :=
  ref_q x0 x5 x6 x17 x18 i l

theorem ref_v : val_main_v29 (F := Ideal) x0 x7 x8 x17 x18 (ix2 i l)
    = denseRow (lnRow (fun k => x0 (ix2 i k)) (fun k => x17 (ix1 k)) fun k => x18 (ix1 k)) (fun k l => x7 (ix2 k l))
        (fun l => x8 (ix1 l)) l :=
  ref_q x0 x7 x8 x17 x18 i l

/-- The reference's rows behind the attention: the residual. -/
theorem ref_res : val_main_v235 (F := Ideal) x0 x1 x2 x3 x4 x5 x6 x7 x8 x9 x10 x11 x12 x17 x18 x21 x22 (ix2 i l)
    = resRow (fun k => x0 (ix2 i k))
        (fun k => val_main_v230 (F := Ideal) x0 x1 x2 x3 x4 x5 x6 x7 x8 x9 x10 x17 x18 x21 x22 (ix2 i k))
        (fun k l => x11 (ix2 k l)) (fun l => x12 (ix1 l)) l := by
  unfold val_main_v235 val_main_v232 val_main_v231
  generalize val_main_v230 (F := Ideal) x0 x1 x2 x3 x4 x5 x6 x7 x8 x9 x10 x17 x18 x21 x22 = y
  pointwise [val_main_v234, val_main_v233, dot_S2048x768_S768x768_S2048x768_1_0_0_1_n_n]
  rfl

/-- The reference's second layer norm. -/
theorem ref_ln2 : val_main_v253 (F := Ideal) x0 x1 x2 x3 x4 x5 x6 x7 x8 x9 x10 x11 x12 x17 x18 x19 x20 x21 x22 (ix2 i l)
    = lnRow (fun k => val_main_v235 (F := Ideal) x0 x1 x2 x3 x4 x5 x6 x7 x8 x9 x10 x11 x12 x17 x18 x21 x22 (ix2 i k))
        (fun k => x19 (ix1 k)) (fun k => x20 (ix1 k)) l := by
  simp only [
    val_main_cst_48, val_main_v236, val_main_v237, val_main_cst_49, val_main_v238, val_main_v239, val_main_c_50,
    val_main_call16_cst, val_main_call16_v0, val_main_call16_v1, val_main_call16_cst_0, val_main_call16_v2,
    val_main_call16_v3, val_main_call16_v4, val_main_call16_v5, val_main_call16_v6, val_main_call16_v7,
    val_main_call16_cst_1, val_main_call16_v8, val_main_call16_cst_2, val_main_call16_v9, val_main_call16_v10,
    val_main_call16_v11, val_main_call16_v12, val_main_call16_cst_3, val_main_call16_v13, val_main_call16_cst_4,
    val_main_call16_call0_v0, val_main_call16_call0_v1, val_main_v240, val_main_v241, val_main_v242, val_main_cst_51,
    val_main_v243, val_main_v244, val_main_v245, val_main_v246, val_main_v247, val_main_v248, val_main_v249,
    val_main_v250, val_main_v251, val_main_v252, val_main_v253]
  generalize val_main_v235 (F := Ideal) x0 x1 x2 x3 x4 x5 x6 x7 x8 x9 x10 x11 x12 x17 x18 x21 x22 = y
  pointwise
  simp only [len_sub.1, if_pos len_sub.2]
  rfl

/-- The reference's result, over its attention's rows. -/
theorem ref_out :
    val_main_v275 (F := Ideal) x0 x1 x2 x3 x4 x5 x6 x7 x8 x9 x10 x11 x12 x13 x14 x15 x16 x17 x18 x19 x20 x21 x22 (ix2 i l)
      = ffnRow (resRow (fun k => x0 (ix2 i k))
            (fun k => val_main_v230 (F := Ideal) x0 x1 x2 x3 x4 x5 x6 x7 x8 x9 x10 x17 x18 x21 x22 (ix2 i k))
            (fun k l => x11 (ix2 k l)) (fun l => x12 (ix1 l)))
          (fun k => x19 (ix1 k)) (fun k => x20 (ix1 k)) (fun k u => x13 (ix2 k u)) (fun u => x14 (ix1 u))
          (fun u l => x15 (ix2 u l)) (fun l => x16 (ix1 l)) l := by
  have hy := ref_res x0 x1 x2 x3 x5 x7 x11 x4 x6 x8 x10 x12 x17 x18 x9 x21 x22 i
  have hl := ref_ln2 x0 x1 x2 x3 x5 x7 x11 x4 x6 x8 x10 x12 x17 x18 x19 x20 x9 x21 x22 i
  simp only [hy] at hl
  simp only [
    val_main_v254, val_main_v255, val_main_v256, val_main_v257, val_main_v258, val_main_v259, val_main_cst_52,
    val_main_v260, val_main_v261, val_main_v262, val_main_cst_53, val_main_v263, val_main_v264, val_main_v265,
    val_main_cst_54, val_main_v266, val_main_v267, val_main_cst_55, val_main_v268, val_main_v269, val_main_v270,
    val_main_v271, val_main_v272, val_main_v273, val_main_v274, val_main_v275]
  generalize val_main_v253 (F := Ideal) x0 x1 x2 x3 x4 x5 x6 x7 x8 x9 x10 x11 x12 x17 x18 x19 x20 x21 x22 = z at *
  generalize val_main_v235 (F := Ideal) x0 x1 x2 x3 x4 x5 x6 x7 x8 x9 x10 x11 x12 x17 x18 x21 x22 = y at *
  pointwise [dot_S2048x768_S768x3072_S2048x3072_1_0_0_1_n_n, dot_S2048x3072_S3072x768_S2048x768_1_0_0_1_n_n]
  simp only [hl, hy, ffnRow, act, denseRow, mul_assoc, add_assoc]

end Reference

end Cert.KernelIdeal.Att

end
-- ==== Proof.Arr.lean ====
/- What the first and the last of the kernel's calls leave in their output arrays, row by row, over any contents that
   they are entered with; and the blocks that the middle call reads. -/
module

public import proofs.«01_k».proof.Proof.Rows
public import proofs.«01_k».proof.Proof.Gen.KernelIdeal.Frame
public import Idealize.ShloMosaic.Lib.Pipeline.ValueKit

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

variable (V : (c : Dev nD) → (b : Ref sig .tc) → Buf (Elt Ideal) ((c : Thread nD τ).loc b))

/-- The row of the whole array that is row `r` of the block of grid point `t`. -/
def rowOf (t : Fin 8) (r : Fin 256) : Fin 2048 := ⟨t.val * 256 + r.val, by omega⟩

/-- Which block of each array a grid point of the first call reads or writes. -/
theorem idx0 : ∀ t : Fin cfg0.N, win0_0.index t = ![t.val, 0]
    ∧ win0_1.index t = ![0, 0] ∧ win0_2.index t = ![0, 0] ∧ win0_3.index t = ![0, 0]
    ∧ win0_4.index t = ![0, 0] ∧ win0_5.index t = ![t.val, 0] ∧ win0_6.index t = ![t.val, 0]
    ∧ win0_7.index t = ![t.val, 0] := by
  decide +kernel

/-- Which block of each array a grid point of the middle call reads or writes. -/
theorem idx1 : ∀ t : Fin cfg1.N, win1_0.index t = ![t.val, 0]
    ∧ win1_1.index t = ![0, 0] ∧ win1_2.index t = ![0, 0] ∧ win1_3.index t = ![0, 0]
    ∧ win1_4.index t = ![0, 0] ∧ win1_5.index t = ![0, 0] ∧ win1_6.index t = ![0, 0]
    ∧ win1_7.index t = ![0, 0] ∧ win1_8.index t = ![0, 0] ∧ win1_9.index t = ![t.val, 0] := by
  decide +kernel

/-- Which block of each array a grid point of the last call reads or writes. -/
theorem idx2 : ∀ t : Fin cfg2.N, win2_0.index t = ![t.val, 0]
    ∧ win2_1.index t = ![t.val, 0] ∧ win2_2.index t = ![0, 0] ∧ win2_3.index t = ![0, 0]
    ∧ win2_4.index t = ![0, 0] ∧ win2_5.index t = ![0, 0] ∧ win2_6.index t = ![0, 0]
    ∧ win2_7.index t = ![0, 0] ∧ win2_8.index t = ![0, 0] ∧ win2_9.index t = ![0, 0]
    ∧ win2_10.index t = ![t.val, 0] := by
  decide +kernel

/-- The first call's blocks of rows. -/
theorem rows0 (c : Dev nD) (t : Fin cfg0.N) (r : Fin 256) (k : Fin 768) :
    iblk0 V c 0 t (ix2 r k) = V c main_arg0 (ix2 (rowOf t r) k)
      ∧ ((View.whole main_v7_0).slice (win0_5.rect t)).emb (ix2 r k) = ix2 (rowOf t r) k
      ∧ ((View.whole main_v7_1).slice (win0_6.rect t)).emb (ix2 r k) = ix2 (rowOf t r) k
      ∧ ((View.whole main_v7_2).slice (win0_7.rect t)).emb (ix2 r k) = ix2 (rowOf t r) k := by
  refine ⟨?_, ?_, ?_, ?_⟩ <;> blk_ext [iblk0, idx0 t, rowOf]

/-- The first call's other operands are read whole. -/
theorem whole0 (c : Dev nD) (t : Fin cfg0.N) :
    iblk0 V c 1 t = V c main_v5 ∧ iblk0 V c 2 t = V c main_v6 ∧ iblk0 V c 3 t = V c main_v2 ∧ iblk0 V c 4 t = V c main_v4 := by
  refine ⟨?_, ?_, ?_, ?_⟩ <;> (funext y; blk_ext [iblk0, idx0 t])

/-- The middle call's blocks of rows. -/
theorem rows1 (c : Dev nD) (t : Fin cfg1.N) (r : Fin 256) (k : Fin 768) :
    iblk1 V c 0 t (ix2 r k) = V c main_v7_0 (ix2 (rowOf t r) k)
      ∧ ((View.whole main_v137).slice (win1_9.rect t)).emb (ix2 r k) = ix2 (rowOf t r) k := by
  refine ⟨?_, ?_⟩ <;> blk_ext [iblk1, idx1 t, rowOf]

set_option maxHeartbeats 2000000 in
/-- The middle call's other operands are read whole. -/
theorem whole1 (c : Dev nD) (t : Fin cfg1.N) :
    iblk1 V c 1 t = V c main_arg1 ∧ iblk1 V c 2 t = V c main_v7_1 ∧ iblk1 V c 3 t = V c main_v7_2 ∧ iblk1 V c 4 t = V c main_v135
      ∧ iblk1 V c 5 t = V c main_v131 ∧ iblk1 V c 6 t = V c main_v134 ∧ iblk1 V c 7 t = V c main_v0 ∧ iblk1 V c 8 t = V c main_v136 := by
  refine ⟨?_, ?_, ?_, ?_, ?_, ?_, ?_, ?_⟩ <;> (funext y; blk_ext [iblk1, idx1 t])

/-- The last call's blocks of rows. -/
theorem rows2 (c : Dev nD) (t : Fin cfg2.N) (r : Fin 256) (k : Fin 768) :
    iblk2 V c 0 t (ix2 r k) = V c main_arg0 (ix2 (rowOf t r) k)
      ∧ iblk2 V c 1 t (ix2 r k) = V c main_v137 (ix2 (rowOf t r) k)
      ∧ ((View.whole main_v146).slice (win2_10.rect t)).emb (ix2 r k) = ix2 (rowOf t r) k := by
  refine ⟨?_, ?_, ?_⟩ <;> blk_ext [iblk2, idx2 t, rowOf]

set_option maxHeartbeats 2000000 in
/-- The last call's other operands are read whole. -/
theorem whole2 (c : Dev nD) (t : Fin cfg2.N) :
    iblk2 V c 2 t = V c main_v138 ∧ iblk2 V c 3 t = V c main_v139 ∧ iblk2 V c 4 t = V c main_v140 ∧ iblk2 V c 5 t = V c main_v141
      ∧ iblk2 V c 6 t = V c main_v142 ∧ iblk2 V c 7 t = V c main_v143 ∧ iblk2 V c 8 t = V c main_v144 ∧ iblk2 V c 9 t = V c main_v145 := by
  refine ⟨?_, ?_, ?_, ?_, ?_, ?_, ?_, ?_⟩ <;> (funext y; blk_ext [iblk2, idx2 t])

/-- What the last call leaves in its output array. -/
theorem arr_ffn (c : Dev nD) : (dat2 V c).arrAt 10 cfg2.N = fun i : S2048x768.Idx =>
    ffnRow (resRow (fun k => V c main_arg0 (ix2 (i 0) k)) (fun k => V c main_v137 (ix2 (i 0) k)) (fun k l => V c main_v138 (ix2 k l))
        (fun l => V c main_v139 (ix2 0 l)))
      (fun k => V c main_v140 (ix2 0 k)) (fun k => V c main_v141 (ix2 0 k)) (fun k u => V c main_v142 (ix2 k u))
      (fun u => V c main_v143 (ix2 0 u)) (fun u l => V c main_v144 (ix2 u l)) (fun l => V c main_v145 (ix2 0 l)) (i 1) := by
  refine (dat2 V c).arrAt_eq_of_covers 10 _ (by decide +kernel) fun t hf y => ?_
  blk_simp
  rw [after2_10]
  frame_out
  obtain ⟨r, l, rfl⟩ : ∃ (r : Fin 256) (l : Fin 768), y = ix2 r l := ⟨y 0, y 1, eq_ix2 y⟩
  obtain ⟨e2, e3, e4, e5, e6, e7, e8, e9⟩ := whole2 V c t
  rw [(rows2 V c t r l).2.2, pay_ffn, e2, e3, e4, e5, e6, e7, e8, e9]
  simp only [fun k => (rows2 V c t r k).1, fun k => (rows2 V c t r k).2.1]
  rfl

/-- The joint row of queries, keys and values that the first call computes from row `i`. -/
def qkvRow (c : Dev nD) (i : Fin 2048) (l : Fin 2304) : EReal :=
  denseRow (lnRow (fun k => V c main_arg0 (ix2 i k)) (fun k => V c main_v5 (ix2 0 k)) fun k => V c main_v6 (ix2 0 k))
    (fun k l => V c main_v2 (ix2 k l)) (fun l => V c main_v4 (ix2 0 l)) l

/-- Column `l` of third `o` of the joint columns. -/
def third (o : Fin 3) (l : Fin 768) : Fin 2304 := ⟨768 * o.val + l.val, by omega⟩

/-- What the first call leaves in its three output arrays: the thirds of each joint row. -/
theorem arr_qkv (c : Dev nD) :
    ((dat0 V c).arrAt 5 cfg0.N = fun i : S2048x768.Idx => qkvRow V c (i 0) (third 0 (i 1)))
      ∧ ((dat0 V c).arrAt 6 cfg0.N = fun i : S2048x768.Idx => qkvRow V c (i 0) (third 1 (i 1)))
      ∧ ((dat0 V c).arrAt 7 cfg0.N = fun i : S2048x768.Idx => qkvRow V c (i 0) (third 2 (i 1))) := by
  have hp : ∀ (t : Fin cfg0.N) (r : Fin 256) (l : Fin 2304),
      k0_pay2 (iblk0 V c 0 t) (iblk0 V c 1 t) (iblk0 V c 2 t) (iblk0 V c 3 t) (iblk0 V c 4 t) (ix2 r l) = qkvRow V c (rowOf t r) l := by
    intro t r l
    obtain ⟨e1, e2, e3, e4⟩ := whole0 V c t
    rw [pay_qkv, e1, e2, e3, e4]
    simp only [fun k => (rows0 V c t r k).1]
    rfl
  refine ⟨(dat0 V c).arrAt_eq_of_covers 5 _ (by decide +kernel) fun t hf y => ?_,
    (dat0 V c).arrAt_eq_of_covers 6 _ (by decide +kernel) fun t hf y => ?_,
    (dat0 V c).arrAt_eq_of_covers 7 _ (by decide +kernel) fun t hf y => ?_⟩
  · blk_simp
    rw [after0_5]
    frame_out
    obtain ⟨r, l, rfl⟩ : ∃ (r : Fin 256) (l : Fin 768), y = ix2 r l := ⟨y 0, y 1, eq_ix2 y⟩
    rw [(rows0 V c t r l).2.1]
    unfold k0_pay3
    pointwise
    exact (hp t r _).trans (congrArg (qkvRow V c (rowOf t r)) (Fin.ext (by simp [third])))
  · blk_simp
    rw [after0_6]
    frame_out
    obtain ⟨r, l, rfl⟩ : ∃ (r : Fin 256) (l : Fin 768), y = ix2 r l := ⟨y 0, y 1, eq_ix2 y⟩
    rw [(rows0 V c t r l).2.2.1]
    unfold k0_pay4
    pointwise
    exact (hp t r _).trans (congrArg (qkvRow V c (rowOf t r)) (Fin.ext (by simp [third])))
  · blk_simp
    rw [after0_7]
    frame_out
    obtain ⟨r, l, rfl⟩ : ∃ (r : Fin 256) (l : Fin 768), y = ix2 r l := ⟨y 0, y 1, eq_ix2 y⟩
    rw [(rows0 V c t r l).2.2.2]
    unfold k0_pay1
    pointwise
    exact (hp t r _).trans (congrArg (qkvRow V c (rowOf t r)) (Fin.ext (by simp [third])))

end Cert.KernelIdeal.Att

end
-- ==== Proof.Sel.lean ====
/- Selecting the K least entries of a row: the stable sort's first positions, and the repeated "take the least entry, at
   its lowest position, out" of a row. Pure facts about rows of a length `n`. -/
module

public import Idealize.ShloMosaic.Lib.SortFacts
public import Idealize.ShloMosaic.Lib.Pointwise

@[expose] public section

noncomputable section

namespace Cert.KernelIdeal.Att

open Idealize.ShloMosaic

/-- Position `a` comes before position `b` among the keys: a smaller key, or an equal key at a lower position. -/
def Ahead {n : ℕ} (key : Fin n → ℝ) (a b : Fin n) : Prop := key a < key b ∨ (key a = key b ∧ a < b)

theorem Ahead.trans {n : ℕ} {key : Fin n → ℝ} {a b d : Fin n} (h : Ahead key a b) (h' : Ahead key b d) : Ahead key a d := by
  rcases h with h | ⟨h, l⟩ <;> rcases h' with h' | ⟨h', l'⟩
  · exact Or.inl (h.trans h')
  · exact Or.inl (h' ▸ h)
  · exact Or.inl (h ▸ h')
  · exact Or.inr ⟨h.trans h', l.trans l'⟩

/-- Inserting a position lower than every one in an ordered list keeps the list ordered. -/
theorem ahead_insert {n : ℕ} (key : Fin n → ℝ) (B : Fin n → Fin n → Bool) (hB : ∀ a b, B a b = true ↔ key a < key b)
    (a : Fin n) (l : List (Fin n)) (hl : l.Pairwise (Ahead key)) (ha : ∀ b ∈ l, a < b) :
    (insertBefore B a l).Pairwise (Ahead key) := by
  induction l with
  | nil => unfold insertBefore; exact List.pairwise_singleton _ _
  | cons b l ih =>
    rw [List.pairwise_cons] at hl
    unfold insertBefore
    split
    · next hb =>
      rw [List.pairwise_cons]
      refine ⟨fun d hd => ?_, ih hl.2 fun d hd => ha d (List.mem_cons_of_mem _ hd)⟩
      rcases List.mem_cons.mp ((perm_insertBefore B a l).mem_iff.mp hd) with rfl | hd'
      · exact Or.inl ((hB _ _).mp hb)
      · exact hl.1 d hd'
    · next hb =>
      have hle : key a ≤ key b := not_lt.mp fun h => hb ((hB _ _).mpr h)
      have hab : Ahead key a b := by
        rcases hle.lt_or_eq with h | h
        · exact Or.inl h
        · exact Or.inr ⟨h, ha b List.mem_cons_self⟩
      rw [List.pairwise_cons]
      refine ⟨fun d hd => ?_, List.pairwise_cons.mpr hl⟩
      rcases List.mem_cons.mp hd with rfl | hd'
      · exact hab
      · exact hab.trans (hl.1 d hd')

/-- The stable sort of positions in rising order is ordered by key, then by position. -/
theorem ahead_stableSort {n : ℕ} (key : Fin n → ℝ) (B : Fin n → Fin n → Bool) (hB : ∀ a b, B a b = true ↔ key a < key b)
    (l : List (Fin n)) (hl : l.Pairwise (· < ·)) : (stableSort B l).Pairwise (Ahead key) := by
  induction l with
  | nil => exact List.Pairwise.nil
  | cons a l ih =>
    rw [List.pairwise_cons] at hl
    unfold stableSort
    exact ahead_insert key B hB a _ (ih hl.2) fun b hb => hl.1 b ((perm_stableSort B l).mem_iff.mp hb)

/-- The sorted positions come in order: by key, ties by position. -/
theorem ahead_sortedFrom {n : ℕ} (key : Fin n → ℝ) (B : Fin n → Fin n → Bool) (hB : ∀ a b, B a b = true ↔ key a < key b)
    (i j : Fin n) (hij : i < j) : Ahead key (sortedFrom B i) (sortedFrom B j) := by
  have h := ahead_stableSort key B hB (List.finRange n) (List.pairwise_lt_finRange n)
  unfold sortedFrom sortPositions
  exact List.pairwise_iff_get.mp h _ _ (show (i.cast _).val < (j.cast _).val from hij)

/-- The row with the entries at the positions of `S` replaced by `top`. -/
def without {n : ℕ} (top : EReal) (w : Fin n → EReal) (S : Finset (Fin n)) (j : Fin n) : EReal := if j ∈ S then top else w j

/-- A fold of `min` whose start is no less than the least entry is the least entry. -/
theorem fold_min_least {α : Type} [LinearOrder α] {n : ℕ} (b : α) (f : Fin n → α) (e : Fin n) (he : ∀ j, f e ≤ f j) (hb : f e ≤ b) :
    Finset.univ.fold min b f = f e :=
  le_antisymm ((Finset.fold_min_le _).mpr (Or.inr ⟨e, Finset.mem_univ _, le_rfl⟩))
    ((Finset.le_fold_min _).mpr ⟨hb, fun j _ => he j⟩)

theorem toInt_minsi (x y : BitVec 32) : (IntOp.minsi x y).toInt = min x.toInt y.toInt := by
  unfold IntOp.minsi
  simp only [BitVec.slt, decide_eq_true_eq]
  split
  · next h => rw [min_eq_left h.le]
  · next h => rw [min_eq_right (not_lt.mp h)]

/-- A fold of the signed minimum whose start is no less than the least entry is the least entry. -/
theorem fold_minsi_least {n : ℕ} (b : BitVec 32) (f : Fin n → BitVec 32) (e : Fin n) (he : ∀ j, (f e).toInt ≤ (f j).toInt)
    (hb : (f e).toInt ≤ b.toInt) : Finset.univ.fold IntOp.minsi b f = f e := by
  apply BitVec.eq_of_toInt_eq
  have h := Finset.fold_hom (op := IntOp.minsi) (op' := min) (s := Finset.univ) (b := b) (f := f) (m := BitVec.toInt)
    (fun x y => toInt_minsi x y)
  rw [← h]
  exact fold_min_least _ (fun j => (f j).toInt) e he hb

/-- The position `j` as the word a row's position vector holds. -/
theorem toInt_pos {n : ℕ} (hn : n ≤ 2048) (j : Fin n) : (BitVec.ofNat 32 j.val).toInt = (j.val : ℤ) := by
  have := j.isLt
  have h : (BitVec.ofNat 32 j.val).toNat = j.val := by rw [BitVec.toNat_ofNat, Nat.mod_eq_of_lt (by omega)]
  rw [BitVec.toInt_eq_toNat_of_lt (by rw [h]; omega), h]

/-- One round on a row: the least entry's lowest position is replaced by `top`. -/
def round {n : ℕ} (top : EReal) (w : Fin n → EReal) (j : Fin n) : EReal :=
  have mrow : EReal := Finset.univ.fold min ⊤ w
  have cand : Fin n → BitVec 32 := fun j => if w j = mrow then BitVec.ofNat 32 j.val else 2048#32
  if cand j = Finset.univ.fold IntOp.minsi 2147483647#32 cand then top else w j

/-- A round takes out of the row the foremost position not yet taken out. -/
theorem round_without {n : ℕ} (hn : n ≤ 2048) (top : EReal) (key : Fin n → ℝ) (w : Fin n → EReal) (hw : ∀ j, w j = (key j : EReal))
    (htop : ∀ j, w j < top) (S : Finset (Fin n)) (e : Fin n) (he : e ∉ S) (hmin : ∀ j, j ∉ S → j ≠ e → Ahead key e j) :
    round top (without top w S) = without top w (insert e S) := by
  have hE : without top w S e = w e := by unfold without; rw [if_neg he]
  have hle : ∀ j, without top w S e ≤ without top w S j := fun j => by
    rw [hE]; unfold without
    split
    · exact (htop e).le
    · next hj =>
      by_cases h : j = e
      · rw [h]
      · rw [hw, hw, EReal.coe_le_coe_iff]
        rcases hmin j hj h with h | h
        · exact h.le
        · exact h.1.le
  have hrow : Finset.univ.fold min ⊤ (without top w S) = w e := (fold_min_least _ _ e hle le_top).trans hE
  have hpos : ∀ j, without top w S j = w e → e ≤ j := fun j hj => by
    unfold without at hj
    split at hj
    · exact absurd hj.symm (htop e).ne
    · next hjS =>
      by_cases h : j = e
      · rw [h]
      · rcases hmin j hjS h with h' | h'
        · rw [hw, hw, EReal.coe_eq_coe_iff] at hj; exact absurd hj h'.ne'
        · exact h'.2.le
  funext j
  unfold round
  simp only [hrow]
  have hfold : Finset.univ.fold IntOp.minsi 2147483647#32
      (fun j => if without top w S j = w e then BitVec.ofNat 32 j.val else 2048#32) = BitVec.ofNat 32 e.val := by
    refine (fold_minsi_least _ _ e (fun j => ?_) ?_).trans (if_pos hE)
    · simp only [hE, if_true]
      have := e.isLt
      split
      · next h => rw [toInt_pos hn, toInt_pos hn]; exact_mod_cast hpos j h
      · rw [toInt_pos hn]; show (e.val : ℤ) ≤ 2048; omega
    · simp only [hE, if_true]
      have := e.isLt
      rw [toInt_pos hn]; show (e.val : ℤ) ≤ 2147483647; omega
  rw [hfold]
  have hiff : (if without top w S j = w e then BitVec.ofNat 32 j.val else 2048#32) = BitVec.ofNat 32 e.val ↔ j = e := by
    have h1 := e.isLt
    have h2 := j.isLt
    constructor
    · intro h
      have h' := congrArg BitVec.toInt h
      rw [toInt_pos hn] at h'
      split at h'
      · rw [toInt_pos hn] at h'; exact Fin.ext (by exact_mod_cast h')
      · exfalso; have h3 : (2048 : ℤ) = e.val := h'; omega
    · rintro rfl; rw [if_pos hE]
  by_cases h : j = e
  · rw [if_pos (hiff.mpr h)]; subst h; unfold without; rw [if_pos (Finset.mem_insert_self _ _)]
  · rw [if_neg fun h' => h (hiff.mp h')]; unfold without
    simp only [Finset.mem_insert, h, false_or]

/-- After `K` rounds the entries at the first `K` sorted positions are out. -/
theorem rounds_without {n : ℕ} (hn : n ≤ 2048) (top : EReal) (key : Fin n → ℝ) (w : Fin n → EReal) (hw : ∀ j, w j = (key j : EReal))
    (htop : ∀ j, w j < top) (B : Fin n → Fin n → Bool) (hB : ∀ a b, B a b = true ↔ key a < key b) (K : ℕ) (hK : K ≤ n) :
    (round top)^[K] w = without top w (Finset.univ.image fun k : Fin K => sortedFrom B (k.castLE hK)) := by
  induction K with
  | zero => funext j; simp [without]
  | succ K ih =>
    rw [Function.iterate_succ_apply', ih (Nat.le_of_succ_le hK)]
    have hlt : K < n := hK
    rw [round_without hn top key w hw htop _ (sortedFrom B ⟨K, hlt⟩)]
    · congr 1
      ext j
      simp only [Finset.mem_insert, Finset.mem_image, Finset.mem_univ, true_and]
      constructor
      · rintro (rfl | ⟨k, rfl⟩)
        · exact ⟨Fin.last K, rfl⟩
        · exact ⟨k.castSucc, rfl⟩
      · rintro ⟨k, rfl⟩
        rcases Fin.eq_castSucc_or_eq_last k with ⟨k', rfl⟩ | rfl
        · exact Or.inr ⟨k', rfl⟩
        · exact Or.inl rfl
    · simp only [Finset.mem_image, Finset.mem_univ, true_and, not_exists]
      intro k h
      have := congrArg Fin.val (sortedFrom_injective B h)
      simp at this; omega
    · intro j hj hne
      obtain ⟨l, rfl⟩ := sortedFrom_surjective B j
      refine ahead_sortedFrom key B hB _ _ ?_
      rcases lt_trichotomy (⟨K, hlt⟩ : Fin n) l with h | h | h
      · exact h
      · exact absurd (congrArg _ h.symm) hne
      · exfalso
        apply hj
        simp only [Finset.mem_image, Finset.mem_univ, true_and]
        exact ⟨⟨l.val, h⟩, rfl⟩

end Cert.KernelIdeal.Att

end
-- ==== Proof.Rounds.lean ====
/- The kernel's sixteen rounds of selection: each round of the vector text is one round on every row, and together they
   leave a bias that is zero at the sixteen foremost positions of each row and the bottom elsewhere. -/
module

public import proofs.«01_k».proof.Proof.Sel
public import proofs.«01_k».proof.Proof.Gen.KernelIdeal.Skeleton
public import Idealize.ShloMosaic.Lib.Pointwise

@[expose] public section

set_option maxRecDepth 16384

noncomputable section

namespace Cert.KernelIdeal.Att

open Idealize.ShloMosaic Cert.KernelIdeal Cert.KernelIdeal.Gen

/-- The positions of the columns. -/
def cols : IVec S256x2048 32 := iota .tc S256x2048 32 [1] iota_S256x2048_d1_w32

/-- Which entries are the least of their rows. -/
def leastAt (w : FVec Ideal S256x2048 .f32) : IVec S256x2048 1 :=
  cmpf .oeq w (broadcastTo S256x2048 (shapeCast S256x1
    (multiReduction .minimumf [1] S256 w 0x7F800000#32 reduces_S256x2048_S256 (.inl rfl) rfl) shapeCasts_S256_S256x1)
    broadcasts_S256x1_S256x2048)

/-- The positions of the marked entries, and the row's length at the others. -/
def candOf (io : IVec S256x2048 32) (b : IVec S256x2048 1) : IVec S256x2048 32 := select b io (broadcast S256x2048 2048#32)

/-- Which entry holds the lowest candidate of its row. -/
def firstAt (a : IVec S256x2048 32) : IVec S256x2048 1 :=
  cmpi .eq a (broadcastTo S256x2048 (shapeCast S256x1 (multiReductionI .minsi [1] S256 a 2147483647#32 reduces_S256x2048_S256 rfl)
    shapeCasts_S256_S256x1) broadcasts_S256x1_S256x2048)

/-- The marked entries replaced by the large number. -/
def strike (b : IVec S256x2048 1) (w : FVec Ideal S256x2048 .f32) : FVec Ideal S256x2048 .f32 :=
  select b (broadcast S256x2048 (Scalar.ofBits .f32 0x7F61B1E6#32)) w

/-- One round on all rows. -/
def step (io : IVec S256x2048 32) (w : FVec Ideal S256x2048 .f32) : FVec Ideal S256x2048 .f32 :=
  strike (firstAt (candOf io (leastAt w))) w

/-- The bias of a struck entry is zero, that of the others the mask's value. -/
def biasOf (w : FVec Ideal S256x2048 .f32) : FVec Ideal S256x2048 .f32 :=
  select (cmpf .oeq w (broadcast S256x2048 (Scalar.ofBits .f32 0x7F61B1E6#32)))
    (broadcast S256x2048 (Scalar.ofBits .f32 0x00000000#32)) (broadcast S256x2048 (Named.named κ "mask" 0xF149F2CA#32))

/-- A decision as a bit. -/
theorem ofBool_ite (p : Prop) [Decidable p] : BitVec.ofBool (decide p) = if p then 1#1 else 0#1 := by
  by_cases h : p <;> simp [h]

/-- The least candidate of a row. -/
theorem lowest_apply (a : IVec S256x2048 32) (b : BitVec 32) (hb : b = IKind.minsi.neutral) (r : Fin 256) :
    multiReductionI .minsi [1] S256 a b reduces_S256x2048_S256 hb (ix1 r)
      = Finset.univ.fold IntOp.minsi b fun k : Fin 2048 => a (ix2 r k) := by
  pointwise

/-- Which entries are the least of their rows, at an entry. -/
theorem leastAt_apply (w : FVec Ideal S256x2048 .f32) (r : Fin 256) (j : Fin 2048) :
    leastAt w (ix2 r j) = if w (ix2 r j) = Finset.univ.fold min ⊤ (fun k : Fin 2048 => w (ix2 r k)) then 1#1 else 0#1 := by
  have h : Ideal.ofBits .f32 0x7F800000#32 = ⊤ := by simp [Ideal.ofBits, Ideal.ieee]
  pointwise [leastAt]
  rw [h, ofBool_ite]

/-- The candidates at an entry. -/
theorem candOf_apply (b : IVec S256x2048 1) (r : Fin 256) (j : Fin 2048) :
    candOf cols b (ix2 r j) = if b (ix2 r j) = 1#1 then BitVec.ofNat 32 j.val else 2048#32 := by
  pointwise [candOf, cols]
  rfl

/-- Which entry holds the lowest candidate, at an entry. -/
theorem firstAt_apply (a : IVec S256x2048 32) (r : Fin 256) (j : Fin 2048) :
    firstAt a (ix2 r j)
      = if a (ix2 r j) = Finset.univ.fold IntOp.minsi 2147483647#32 (fun k : Fin 2048 => a (ix2 r k)) then 1#1 else 0#1 := by
  rw [← lowest_apply a 2147483647#32 rfl r, ← ofBool_ite]
  unfold firstAt
  generalize multiReductionI .minsi [1] S256 a 2147483647#32 reduces_S256x2048_S256 rfl = m
  pointwise
  rfl

/-- The struck entries, at an entry. -/
theorem strike_apply (b : IVec S256x2048 1) (w : FVec Ideal S256x2048 .f32) (r : Fin 256) (j : Fin 2048) :
    strike b w (ix2 r j) = if b (ix2 r j) = 1#1 then Ideal.ofBits .f32 0x7F61B1E6#32 else w (ix2 r j) := by
  pointwise [strike]
  rfl

/-- One round at an entry is one round on that entry's row. -/
theorem step_apply (w : FVec Ideal S256x2048 .f32) (r : Fin 256) :
    (fun j : Fin 2048 => step cols w (ix2 r j)) = round (Ideal.ofBits .f32 0x7F61B1E6#32) fun j => w (ix2 r j) := by
  funext j
  unfold step round
  have h (p : Prop) [Decidable p] : ((if p then 1#1 else 0#1 : BitVec 1) = 1#1) = p := by by_cases h : p <;> simp [h]
  simp only [strike_apply, firstAt_apply, candOf_apply, leastAt_apply, h]

/-- The rounds on all rows are the rounds on each row. -/
theorem steps_apply (w : FVec Ideal S256x2048 .f32) (r : Fin 256) (n : ℕ) :
    (fun j : Fin 2048 => (step cols)^[n] w (ix2 r j)) = (round (Ideal.ofBits .f32 0x7F61B1E6#32))^[n] fun j => w (ix2 r j) := by
  induction n generalizing w with
  | zero => rfl
  | succ n ih => rw [Function.iterate_succ_apply, Function.iterate_succ_apply, ih, step_apply]

variable (io : IVec S256x2048 32) (w : FVec Ideal S256x2048 .f32)

theorem pay15_eq : k1_pay15 io w (leastAt w) = step io (step io (step io (step io w))) := rfl
theorem pay16_eq : k1_pay16 io w = step io (step io (step io w)) := rfl
theorem pay17_eq : k1_pay17 io w = firstAt (candOf io (leastAt (k1_pay16 io w))) := rfl
theorem pay18_eq (b : IVec S256x2048 1) : k1_pay18 io w b = step io (step io (step io (strike b w))) := rfl
theorem pay19_eq (b : IVec S256x2048 1) : k1_pay19 io w b = candOf io (leastAt (k1_pay18 io w b)) := rfl
theorem pay20_eq (a : IVec S256x2048 32) : k1_pay20 io w a = biasOf (step io (step io (strike (firstAt a) w))) := rfl

/-- The large number is a real, and the mask's value is the bottom. -/
theorem big_real : Ideal.ofBits .f32 0x7F61B1E6#32 = ((14791142 * 2 ^ 104 : ℝ) : EReal) := by
  simp [Ideal.ofBits, Ideal.ieee, -EReal.coe_mul]

theorem mask_bot : (Named.named (F := Ideal) κ "mask" (0xF149F2CA#32 : BitVec 32) : Ideal .f32) = (⊥ : EReal) :=
  IdealRules.named_const.ideal_named_scalar _ _ _ _ rfl

/-- After sixteen rounds on a row of small numbers the bias is zero at the sixteen foremost positions and the bottom elsewhere. -/
theorem bias_rounds (r : Fin 256) (key : Fin 2048 → ℝ) (hw : ∀ j, w (ix2 r j) = (key j : EReal)) (hlt : ∀ j, key j < 14791142 * 2 ^ 104)
    (B : Fin 2048 → Fin 2048 → Bool) (hB : ∀ a b, B a b = true ↔ key a < key b) (j : Fin 2048) :
    biasOf ((step cols)^[16] w) (ix2 r j)
      = if j ∈ Finset.univ.image (fun k : Fin 16 => sortedFrom B (k.castLE (by decide))) then (0 : EReal) else ⊥ := by
  have hs := congrFun ((steps_apply w r 16).trans (rounds_without le_rfl _ key _ hw
    (fun j => by rw [hw, big_real]; exact EReal.coe_lt_coe_iff.mpr (hlt j)) B hB 16 (by decide))) j
  have hb (w' : FVec Ideal S256x2048 .f32) : biasOf w' (ix2 r j) = if w' (ix2 r j) = Ideal.ofBits .f32 0x7F61B1E6#32 then 0 else ⊥ := by
    pointwise [biasOf]
    rw [mask_bot]
  rw [hb, hs]
  unfold without
  by_cases h : j ∈ Finset.univ.image (fun k : Fin 16 => sortedFrom B (k.castLE (by decide)))
  · rw [if_pos h, if_pos h, if_pos rfl]
  · rw [if_neg h, if_neg h, if_neg]
    simp only [hw, big_real]
    exact fun h' => (hlt j).ne (EReal.coe_injective h')

end Cert.KernelIdeal.Att

end
-- ==== Proof.Soft.lean ====
/- The softmax of a row over the extended reals, in two spellings: over all of the row's positions with the unselected
   ones at minus infinity, in base two; and over the selected positions alone. Pure facts about finite sums. -/
module

public import Idealize.ShloMosaic.Lib.Pointwise

@[expose] public section

noncomputable section

namespace Cert.KernelIdeal.Att

open Idealize.ShloMosaic

/-- A sum of reals, summed in the extended reals, is the real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Division of reals in the extended reals, off zero. -/
theorem div_real (a b : ℝ) (hb : b ≠ 0) : Ideal.div (a : EReal) (b : EReal) = ((a / b : ℝ) : EReal) := by
  rw [Ideal.div_coe hb, ← EReal.coe_mul, mul_one_div]

/-- The fold of a maximum from minus infinity is the greatest entry where one is named. -/
theorem fold_max_greatest {n : ℕ} (f : Fin n → EReal) (e : Fin n) (he : ∀ j, f j ≤ f e) :
    Finset.univ.fold max ⊥ f = f e := by
  refine le_antisymm ?_ ?_
  · exact (Finset.fold_max_le _).mpr ⟨bot_le, fun j _ => he j⟩
  · exact (Finset.le_fold_max _).mpr (Or.inr ⟨e, Finset.mem_univ _, le_rfl⟩)

/-- Two to the power `x / log 2` is the exponential. -/
theorem rpow_two (x y : ℝ) : Real.rpow 2 (x * (Real.log 2)⁻¹ - y * (Real.log 2)⁻¹) = Real.exp x / Real.exp y := by
  have h2 : Real.log 2 ≠ 0 := (Real.log_pos (by norm_num)).ne'
  rw [Real.rpow_eq_pow, Real.rpow_def_of_pos (by norm_num), ← Real.exp_sub]
  congr 1
  field_simp

/-- A sum times a real that is not negative is the sum of the products. -/
theorem sum_mul_real {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- The base-two softmax over a whole row, its unselected entries at minus infinity, weighs the selected entries by
    their exponentials. -/
theorem soft_masked {n : ℕ} (S : Finset (Fin n)) (hS : S.Nonempty) (z : Fin n → ℝ) (v : Fin n → EReal) (s : Fin n → EReal)
    (hs : ∀ j, s j = if j ∈ S then ((z j * (Real.log 2)⁻¹ : ℝ) : EReal) else ⊥) :
    (∑ j, Ideal.exp2 (s j - Finset.univ.fold max ⊥ s) * v j)
        * Ideal.div 1 (∑ j, Ideal.exp2 (s j - Finset.univ.fold max ⊥ s))
      = ∑ j ∈ S, ((Real.exp (z j) / ∑ j ∈ S, Real.exp (z j) : ℝ) : EReal) * v j := by
  classical
  obtain ⟨e, he, hmax⟩ := S.exists_max_image z hS
  have hl : 0 < (Real.log 2)⁻¹ := inv_pos.mpr (Real.log_pos (by norm_num))
  have hfold : Finset.univ.fold max ⊥ s = ((z e * (Real.log 2)⁻¹ : ℝ) : EReal) := by
    rw [fold_max_greatest s e, hs, if_pos he]
    intro j
    rw [hs, hs, if_pos he]
    split
    · next hj => exact EReal.coe_le_coe_iff.mpr (mul_le_mul_of_nonneg_right (hmax j hj) hl.le)
    · exact bot_le
  have hexp : ∀ j, Ideal.exp2 (s j - Finset.univ.fold max ⊥ s)
      = ((if j ∈ S then Real.exp (z j) / Real.exp (z e) else 0 : ℝ) : EReal) := by
    intro j
    rw [hfold, hs]
    split
    · rw [← EReal.coe_sub, Ideal.exp2_coe, rpow_two]
    · rw [EReal.bot_sub, Ideal.exp2_bot, EReal.coe_zero]
  simp only [hexp, coe_sum]
  have hpos : 0 < ∑ j ∈ S, Real.exp (z j) := Finset.sum_pos (fun j _ => Real.exp_pos _) hS
  have h1 : ∑ j, (if j ∈ S then Real.exp (z j) / Real.exp (z e) else 0) = (∑ j ∈ S, Real.exp (z j)) / Real.exp (z e) := by
    rw [Finset.sum_ite_mem, Finset.univ_inter, Finset.sum_div]
  have hlt : 0 < (∑ j ∈ S, Real.exp (z j)) / Real.exp (z e) := div_pos hpos (Real.exp_pos _)
  rw [h1, show (1 : EReal) = ((1 : ℝ) : EReal) from rfl, div_real _ _ hlt.ne', sum_mul_real _ _ _ (one_div_pos.mpr hlt).le]
  refine (Finset.sum_subset (Finset.subset_univ S) fun j _ hj => ?_).symm.trans
    (Finset.sum_congr (s₁ := S) rfl fun j hj => ?_)
  · rw [if_neg hj, EReal.coe_zero, zero_mul, zero_mul]
  · rw [if_pos hj, mul_right_comm, ← EReal.coe_mul]
    congr 2
    have := hpos.ne'
    field_simp

/-- The softmax over the selected entries, normalised entry by entry, its scores moved by a constant, weighs the
    entries by the exponentials of the unmoved scores. -/
theorem soft_selected {n : ℕ} (hn : 0 < n) (z : Fin n → ℝ) (v : Fin n → EReal) (b : ℝ) (t : Fin n → EReal) (ht : ∀ k, t k = ((z k + b : ℝ) : EReal)) :
    (∑ k, Ideal.div (Ideal.exp (t k - Finset.univ.fold max ⊥ t)) (∑ l, Ideal.exp (t l - Finset.univ.fold max ⊥ t))
        * v k)
      = ∑ k, ((Real.exp (z k) / ∑ k, Real.exp (z k) : ℝ) : EReal) * v k := by
  haveI : Nonempty (Fin n) := ⟨⟨0, hn⟩⟩
  obtain ⟨e, -, hmax⟩ := (Finset.univ : Finset (Fin n)).exists_max_image z Finset.univ_nonempty
  have hfold : Finset.univ.fold max ⊥ t = ((z e + b : ℝ) : EReal) := by
    rw [fold_max_greatest t e, ht]
    intro j
    rw [ht, ht]
    exact EReal.coe_le_coe_iff.mpr (add_le_add_left (hmax j (Finset.mem_univ _)) b)
  have hexp : ∀ k, Ideal.exp (t k - Finset.univ.fold max ⊥ t) = ((Real.exp (z k) / Real.exp (z e) : ℝ) : EReal) := by
    intro k
    rw [hfold, ht, ← EReal.coe_sub, Ideal.exp_coe, ← Real.exp_sub]
    congr 2
    ring
  have hpos : 0 < ∑ k, Real.exp (z k) := Finset.sum_pos (fun j _ => Real.exp_pos _) Finset.univ_nonempty
  have h1 : ∑ k, Real.exp (z k) / Real.exp (z e) = (∑ k, Real.exp (z k)) / Real.exp (z e) := by rw [Finset.sum_div]
  have hne : (∑ k, Real.exp (z k)) / Real.exp (z e) ≠ 0 := (div_pos hpos (Real.exp_pos _)).ne'
  simp only [hexp, coe_sum, h1, div_real _ _ hne]
  refine Finset.sum_congr (s₁ := (Finset.univ : Finset (Fin n))) rfl fun k _ => ?_
  congr 2
  have := hpos.ne'
  have := (Real.exp_pos (z e)).ne'
  field_simp

/-- A sum over the positions that an injective list names is the sum over the list. -/
theorem sum_image_list {M : Type} [AddCommMonoid M] {n K : ℕ} (σ : Fin K → Fin n) (hσ : Function.Injective σ) (f : Fin n → M) :
    ∑ j ∈ Finset.univ.image σ, f j = ∑ k, f (σ k) :=
  Finset.sum_image (M := M) (s := Finset.univ) (g := σ) (f := f) fun a _ b _ h => hσ h

end Cert.KernelIdeal.Att

end
-- ==== Proof.Spec.lean ====
/- The attention over the reals: the keys of the selection, the log map's coefficients, the scores and the weighted sum. -/
module

public import proofs.«01_k».proof.Proof.Soft
public import Idealize.ShloMosaic.PureOps.Ideal

@[expose] public section

noncomputable section

namespace Cert.KernelIdeal.Att

open Idealize.ShloMosaic

/-- The small constant that the clips use, as the rational of its word. -/
def eps : ℝ := 14073749 / 2 ^ 47

/-- One less the small constant, as the rational of its word. -/
def eta : ℝ := 16777214 / 2 ^ 24

section Geometry

variable (c : ℝ) (X : Fin 2048 → Fin 16 → ℝ) (i j : Fin 2048)

/-- The squared length of a position. -/
def sq (i : Fin 2048) : ℝ := ∑ p, X i p * X i p

/-- The product of two positions. -/
def ip (i j : Fin 2048) : ℝ := ∑ p, X i p * X j p

/-- The denominator of the Moebius sum, clipped. -/
def den (i j : Fin 2048) : ℝ := max (1 - 2 * c * ip X i j + c * c * sq X i * sq X j) eps

/-- The coefficient in the Moebius sum's numerator that holds the point `j`'s length. -/
def ca (i j : Fin 2048) : ℝ := 1 - 2 * c * ip X i j + c * sq X j

/-- The other coefficient in the Moebius sum's numerator. -/
def cb (i : Fin 2048) : ℝ := 1 - c * sq X i

/-- The squared length of the numerator of the Moebius sum of `-i` and `j`. -/
def num2 (i j : Fin 2048) : ℝ :=
  ca c X i j * ca c X i j * sq X i - 2 * ca c X i j * cb c X i * ip X i j + cb c X i * cb c X i * sq X j

/-- The squared length of the Moebius sum of `j` and `-i`: the key of the selection. -/
def key (i j : Fin 2048) : ℝ := num2 c X j i / (den c X j i * den c X j i)

/-- The clipped root of the curvature. -/
def rc : ℝ := max (√c) eps

/-- The length of the Moebius sum of `-i` and `j`. -/
def nrm : ℝ := √(max (num2 c X i j) 0) / den c X i j

/-- The projection's factor. -/
def scl : ℝ := min (eta / rc c / max (nrm c X i j) eps) 1

/-- The projected length. -/
def nrmP : ℝ := nrm c X i j * scl c X i j

/-- The argument of the log map's inverse hyperbolic tangent. -/
def arg : ℝ := min (rc c * max (nrmP c X i j) eps) eta

/-- The log map's factor on the projected sum. -/
def gam : ℝ :=
  if nrmP c X i j < eps then 0
  else 1 / 2 * Real.log ((1 + arg c X i j) / (1 - arg c X i j)) / rc c / max (nrmP c X i j) eps

/-- The log map's coefficients on the two positions. -/
def pco : ℝ := gam c X i j * ((0 - ca c X i j) * (scl c X i j / den c X i j))
def qco : ℝ := gam c X i j * (cb c X i * (scl c X i j / den c X i j))

/-- The sixteen foremost positions of a row. -/
def sel (k : Fin 16) : Fin 2048 := sortedFrom (fun a b => decide (key c X i a < key c X i b)) (k.castLE (by decide))

end Geometry

section Attention

variable (c : ℝ) (X : Fin 2048 → Fin 16 → ℝ) (Q K : Fin 2048 → Fin 768 → ℝ) (Wg : Fin 16 → Fin 768 → ℝ) (al fs : Fin 12 → ℝ)

/-- Column `l` of head `h`. -/
def headCol (h : Fin 12) (l : Fin 64) : Fin 768 := ⟨64 * h.val + l.val, by omega⟩

/-- A query's product with a position's weights. -/
def qw (i : Fin 2048) (h : Fin 12) (p : Fin 16) : ℝ := ∑ d : Fin 64, Q i (headCol h d) * Wg p (headCol h d)

/-- The score of position `j` for query `i` in head `h`. -/
def score (i : Fin 2048) (h : Fin 12) (j : Fin 2048) : ℝ :=
  fs h * ((∑ d : Fin 64, Q i (headCol h d) * K j (headCol h d)) / 8)
    + al h * (pco c X i j * (∑ p, qw Q Wg i h p * X i p) + qco c X i j * ∑ p, qw Q Wg i h p * X j p)

/-- The attention's result: the values of the selected positions, weighted. -/
def attend (V : Fin 2048 → Fin 768 → EReal) (i : Fin 2048) (h : Fin 12) (l : Fin 64) : EReal :=
  ∑ k : Fin 16, ((Real.exp (score c X Q K Wg al fs i h (sel c X i k))
    / ∑ k' : Fin 16, Real.exp (score c X Q K Wg al fs i h (sel c X i k')) : ℝ) : EReal) * V (sel c X i k) (headCol h l)

end Attention

theorem eps_pos : 0 < eps := by unfold eps; norm_num
theorem eta_pos : 0 < eta := by unfold eta; norm_num
theorem eta_lt : eta < 1 := by unfold eta; norm_num
theorem eps_lt_eta : eps < eta := by unfold eps eta; norm_num

theorem den_pos (c : ℝ) (X : Fin 2048 → Fin 16 → ℝ) (i j : Fin 2048) : 0 < den c X i j := lt_max_of_lt_right eps_pos
theorem rc_pos (c : ℝ) : 0 < rc c := lt_max_of_lt_right eps_pos

theorem ip_comm (X : Fin 2048 → Fin 16 → ℝ) (i j : Fin 2048) : ip X i j = ip X j i :=
  Finset.sum_congr rfl fun p _ => mul_comm _ _

theorem den_comm (c : ℝ) (X : Fin 2048 → Fin 16 → ℝ) (i j : Fin 2048) : den c X i j = den c X j i := by
  unfold den; rw [ip_comm X j i]; ring_nf

/-- A sum of two multiples of positions has the squared length that its coefficients give. -/
theorem sum_sq (X : Fin 2048 → Fin 16 → ℝ) (i j : Fin 2048) (a b : ℝ) :
    ∑ p, (a * X i p + b * X j p) * (a * X i p + b * X j p) = a * a * sq X i + 2 * a * b * ip X i j + b * b * sq X j := by
  unfold sq ip
  rw [Finset.mul_sum, Finset.mul_sum, Finset.mul_sum, ← Finset.sum_add_distrib, ← Finset.sum_add_distrib]
  exact Finset.sum_congr rfl fun p _ => by ring

/-- The numerator's squared length is one. -/
theorem num2_eq (c : ℝ) (X : Fin 2048 → Fin 16 → ℝ) (i j : Fin 2048) :
    num2 c X i j = ∑ p, (ca c X i j * (-X i p) + cb c X i * X j p) * (ca c X i j * (-X i p) + cb c X i * X j p) := by
  have h := sum_sq X i j (-ca c X i j) (cb c X i)
  rw [show (∑ p, (ca c X i j * (-X i p) + cb c X i * X j p) * (ca c X i j * (-X i p) + cb c X i * X j p))
    = ∑ p, (-ca c X i j * X i p + cb c X i * X j p) * (-ca c X i j * X i p + cb c X i * X j p) from
      Finset.sum_congr rfl fun p _ => by ring, h]
  unfold num2; ring

theorem num2_nonneg (c : ℝ) (X : Fin 2048 → Fin 16 → ℝ) (i j : Fin 2048) : 0 ≤ num2 c X i j := by
  rw [num2_eq]; exact Finset.sum_nonneg fun p _ => mul_self_nonneg _

end Cert.KernelIdeal.Att

end
-- ==== Proof.Heads.lean ====
/- The middle call's twelve heads: the text of each is one function of the head's number, and its output block holds the
   heads' blocks beside each other. -/
module

public import proofs.«01_k».proof.Proof.Arr
public import proofs.«01_k».proof.Proof.Rounds
public import proofs.«01_k».proof.Proof.Spec

@[expose] public section

set_option maxRecDepth 65536

noncomputable section

namespace Cert.KernelIdeal.Att

open Idealize.ShloMosaic Idealize.ShloMosaic.TcCoe Idealize.ShloMosaic.Tactic
open Cert.KernelIdeal Cert.KernelIdeal.Gen

/-- A head's columns lie among those of the joint arrays. -/
theorem head_slices (h : Fin 12) : S256x768.Slices ![0, 64 * h.val] S256x64 ∧ S256x192.Slices ![0, 16 * h.val] S256x16
    ∧ S256x24576.Slices ![0, 2048 * h.val] S256x2048 ∧ (∀ a, (![0, 64 * h.val] : Fin 2 → ℕ) a + S2048x64.size a ≤ S2048x768.size a)
    ∧ (∀ a, (![0, 64 * h.val] : Fin 2 → ℕ) a + S256x64.size a ≤ S256x768.size a)
    ∧ (∀ a, (![0, h.val] : Fin 2 → ℕ) a + S1x1.size a ≤ S1x12.size a) := by
  revert h; decide

/-- A head's scores of all positions, with the bias. -/
def headScore (h : Fin 12) (v8 : Vec Ideal S256x16 .f32) (v10 : FVec Ideal S256x768 .bf16) (v257 v318 v321 : FVec Ideal S256x2048 .f32)
    (v330 : FVec Ideal S256x192 .f32) (v335 : FVec Ideal S256x24576 .bf16) (v337 : Ideal .f32) (fs : Vec Ideal S1x1 .f32)
    (kh : Vec Ideal S2048x64 .bf16) : FVec Ideal S256x2048 .f32 :=
  addf (addf (addf
    (matmul (φ₂ := .bf16) dot_S256x64_S2048x64_S256x2048_1_1_0_0_n_n none
      (mulf (extractStridedSlice S256x64 ![0, 64 * h.val] v10 (head_slices h).1)
        (broadcast S256x64 (Scalar.truncf .bf16 bitsLt_bf16_f32
          (Scalar.mulf (extractAt ![0, 0] fs inpos_S1x1_p0_0) (Scalar.mulf v337 (Named.named κ "log2e" 0x3FB8AA3B#32))))))
      (shapeCast S2048x64 kh shapeCasts_S2048x64_S2048x64) (constant S256x2048 .f32 0x00000000#32))
    (mulf v318 (broadcastTo S256x2048 (shapeCast S256x1
      (multiReduction .add [1] S256 (mulf (extractStridedSlice S256x16 ![0, 16 * h.val] v330 (head_slices h).2.1) v8) 0x00000000#32
        reduces_S256x16_S256 (.inl rfl) rfl) shapeCasts_S256_S256x1) broadcasts_S256x1_S256x2048)))
    (mulf v321 (extf .f32 (extractStridedSlice S256x2048 ![0, 2048 * h.val] v335 (head_slices h).2.2.1) bitsLt_bf16_f32)))
    v257

/-- The exponentials of a block of scores, shifted by each row's largest. -/
def expOf (s : FVec Ideal S256x2048 .f32) : FVec Ideal S256x2048 .f32 :=
  exp2 (subf s (broadcastTo S256x2048 (shapeCast S256x1
    (multiReduction .maximumf [1] S256 s 0xFF800000#32 reduces_S256x2048_S256 (.inl rfl) rfl) shapeCasts_S256_S256x1)
    broadcasts_S256x1_S256x2048))

/-- The values mixed by a block of exponentials, divided by each row's sum. -/
def mixOf (e : FVec Ideal S256x2048 .f32) (vh : Vec Ideal S2048x64 .bf16) : FVec Ideal S256x64 .f32 :=
  mulf (matmul (φ₂ := .bf16) dot_S256x2048_S2048x64_S256x64_1_0_0_1_n_n none (truncf .bf16 e bitsLt_bf16_f32)
      (shapeCast S2048x64 vh shapeCasts_S2048x64_S2048x64) (constant S256x64 .f32 0x00000000#32))
    (broadcastTo S256x64 (divf (broadcast S256x1 (Scalar.ofBits .f32 0x3F800000#32)) (shapeCast S256x1
      (multiReduction .add [1] S256 e 0x00000000#32 reduces_S256x2048_S256 (.inl rfl) rfl) shapeCasts_S256_S256x1))
      broadcasts_S256x1_S256x64)

/-- The block of the squared norms' quotients, before the rounds. -/
def keyOf (v13 : FVec Ideal S256x1 .f32) (v16 : FVec Ideal S1x2048 .f32) (v17 v31 v37 : FVec Ideal S256x2048 .f32)
    (v39 : FVec Ideal S1x2048 .f32) : FVec Ideal S256x2048 .f32 :=
  have v41 : FVec Ideal S1x2048 .f32 := subf (broadcast S1x2048 (Scalar.ofBits .f32 0x3F800000#32)) v39
  minimumf (divf (addf (subf (mulf (mulf v37 v37) (broadcastTo S256x2048 v16 broadcasts_S1x2048_S256x2048))
      (mulf (mulf (mulf (broadcast S256x2048 (Scalar.ofBits .f32 0x40000000#32)) v37)
        (broadcastTo S256x2048 v41 broadcasts_S1x2048_S256x2048)) v17))
      (mulf (broadcastTo S256x2048 (mulf v41 v41) broadcasts_S1x2048_S256x2048)
        (broadcastTo S256x2048 v13 broadcasts_S256x1_S256x2048)))
      (mulf v31 v31))
    (broadcast S256x2048 (Scalar.ofBits .f32 0x7EE1B1E6#32))

section Texts

variable (v8 : Vec Ideal S256x16 .f32) (v10 : FVec Ideal S256x768 .bf16) (v257 v318 v321 : FVec Ideal S256x2048 .f32)
  (v330 : FVec Ideal S256x192 .f32) (v335 : FVec Ideal S256x24576 .bf16) (v337 : Ideal .f32) (fs : Vec Ideal S1x1 .f32)
  (kh vh : Vec Ideal S2048x64 .bf16)

/-- The printed text of each head is the head's function. -/
theorem text0 (v267 : FVec Ideal S256x1 .f32) (v313 v314 v316 : FVec Ideal S256x2048 .f32) (v322 : Vec Ideal S768x192 .bf16)
    (v325 : Vec Ideal S1x192 .f32) (v332 : Vec Ideal S192x24576 .bf16) :
    k1_pay36 v257 (k1_pay34 v8 v10 v313 v314 v316 v322 v325 fs kh) (k1_pay35 v10 v267 v313 v314 v322 v325 v332) vh
      = mixOf (expOf (headScore 0 v8 v10 v257 (k1_pay29 v313 v314 v316) (k1_pay30 v267 v313 v314) (k1_pay31 v10 v322 v325)
          (k1_pay32 v10 v322 v325 v332) k1_pay33 fs kh)) vh := rfl

theorem text1 : k1_pay39 (k1_pay37 v8 v10 v257 v318 v321 v330 v335 v337 fs kh) (k1_pay38 v8 v10 v257 v318 v321 v330 v335 v337 fs kh) vh
    = mixOf (expOf (headScore 1 v8 v10 v257 v318 v321 v330 v335 v337 fs kh)) vh := rfl

theorem text2 : k1_pay42 (k1_pay40 v8 v10 v257 v318 v321 v330 v335 v337 fs kh) (k1_pay41 v8 v10 v257 v318 v321 v330 v335 v337 fs kh) vh
    = mixOf (expOf (headScore 2 v8 v10 v257 v318 v321 v330 v335 v337 fs kh)) vh := rfl

theorem text3 : k1_pay46 (k1_pay44 v8 v10 v257 v318 v321 v330 v335 v337 fs kh) (k1_pay45 v8 v10 v257 v318 v321 v330 v335 v337 fs kh) vh
    = mixOf (expOf (headScore 3 v8 v10 v257 v318 v321 v330 v335 v337 fs kh)) vh := rfl

theorem text4 : k1_pay51 (k1_pay48 v8 v10 v257 v318 v321 v330 v335 v337 fs kh) (k1_pay49 v8 v10 v257 v318 v321 v330 v335 v337 fs kh)
      (k1_pay50 vh) (constant S256x64 .f32 0x00000000#32)
    = mixOf (expOf (headScore 4 v8 v10 v257 v318 v321 v330 v335 v337 fs kh)) vh := rfl

theorem text5 : k1_pay52 v8 v10 v257 v318 v321 v330 v335 v337 fs kh vh
    = mixOf (expOf (headScore 5 v8 v10 v257 v318 v321 v330 v335 v337 fs kh)) vh := rfl

theorem text6 : k1_pay53 v8 v10 v257 v318 v321 v330 v335 v337 fs kh vh
    = mixOf (expOf (headScore 6 v8 v10 v257 v318 v321 v330 v335 v337 fs kh)) vh := rfl

theorem text7 : k1_pay55 v8 v257 v318 v321 v330 v335 v337 (k1_pay54 v10) fs kh vh
    = mixOf (expOf (headScore 7 v8 v10 v257 v318 v321 v330 v335 v337 fs kh)) vh := rfl

theorem text8 : k1_pay58 v8 v257 v318 v321 v330 v335 (k1_pay56 v10) (k1_pay57 v337 fs) kh vh
    = mixOf (expOf (headScore 8 v8 v10 v257 v318 v321 v330 v335 v337 fs kh)) vh := rfl

theorem text9 : k1_pay60 v8 v257 v318 v321 v330 v335 (k1_pay59 v10 v337 fs) kh vh
    = mixOf (expOf (headScore 9 v8 v10 v257 v318 v321 v330 v335 v337 fs kh)) vh := rfl

theorem text10 : k1_pay63 v8 v257 v318 v321 v335 (k1_pay61 v10 v337 fs kh) (k1_pay62 v330) vh
    = mixOf (expOf (headScore 10 v8 v10 v257 v318 v321 v330 v335 v337 fs kh)) vh := rfl

theorem text11 : k1_pay1 v257 v318 v321 (k1_pay64 v10 v337 fs kh) (k1_pay65 v8 v330) (k1_pay66 v335) vh
    = mixOf (expOf (headScore 11 v8 v10 v257 v318 v321 v330 v335 v337 fs kh)) vh := rfl

/-- The printed rounds are the rounds on the keys. -/
theorem text_key (v13 : FVec Ideal S256x1 .f32) (v16 : FVec Ideal S1x2048 .f32) (v17 v31 v37 : FVec Ideal S256x2048 .f32)
    (v39 : FVec Ideal S1x2048 .f32) :
    k1_pay13 v13 v16 v17 v31 v37 v39 (FloatOps.ofBits .f32 0x3F800000#32) = step cols (step cols (keyOf v13 v16 v17 v31 v37 v39)) := rfl

theorem text_least (v13 : FVec Ideal S256x1 .f32) (v16 : FVec Ideal S1x2048 .f32) (v17 v31 v37 : FVec Ideal S256x2048 .f32)
    (v39 : FVec Ideal S1x2048 .f32) (cst : Ideal .f32) :
    k1_pay14 v13 v16 v17 v31 v37 v39 cst = leastAt (k1_pay13 v13 v16 v17 v31 v37 v39 cst) := rfl

/-- The last text's start of the selection's rounds, folded into their iterate. -/
theorem text_bias (w : FVec Ideal S256x2048 .f32) :
    k1_pay20 cols (k1_pay18 cols (k1_pay16 cols (k1_pay15 cols (step cols (step cols w)) (leastAt (step cols (step cols w)))))
        (k1_pay17 cols (k1_pay15 cols (step cols (step cols w)) (leastAt (step cols (step cols w))))))
      (k1_pay19 cols (k1_pay16 cols (k1_pay15 cols (step cols (step cols w)) (leastAt (step cols (step cols w)))))
        (k1_pay17 cols (k1_pay15 cols (step cols (step cols w)) (leastAt (step cols (step cols w))))))
      = biasOf ((step cols)^[16] w) := by
  rw [pay19_eq, pay20_eq, pay17_eq, pay18_eq, pay16_eq, pay15_eq]
  simp only [Function.iterate_succ, Function.iterate_zero, Function.comp_apply, id]
  rfl

end Texts

section Blocks

variable (i : grid1.Coords) (x0 : Vec Ideal S256x768 .bf16) (x1 : Vec Ideal S2048x16 .f32) (x2 x3 : Vec Ideal S2048x768 .bf16)
  (x4 : Vec Ideal S768x192 .bf16) (x5 : Vec Ideal S192x24576 .bf16) (x6 : Vec Ideal S1x192 .f32) (x7 : Vec Ideal S1x1 .f32)
  (x8 : Vec Ideal S1x12 .f32)

/-- The positions of a grid point's rows. -/
def blkPos : Vec Ideal S256x16 .f32 := View.ld x1 (Rect.unit (s := S2048x16) (k1_off1 i) S256x16.size (k1_off1_inb i))

/-- The keys of the selection. -/
def keys : FVec Ideal S256x2048 .f32 :=
  keyOf (k1_pay6 (blkPos i x1)) (k1_pay7 x1) (k1_pay8 x1 (blkPos i x1)) (k1_pay10 x7 x1 (blkPos i x1)) (k1_pay11 x7 x1 (blkPos i x1))
    (k1_pay12 x7 x1)

/-- The coefficient of a row's own position in the log map. -/
def gamOf : FVec Ideal S256x2048 .f32 :=
  k1_pay26 (k1_pay3 x7) (k1_pay4 x7) (k1_pay6 (blkPos i x1)) (k1_pay7 x1) (k1_pay8 x1 (blkPos i x1)) (k1_pay10 x7 x1 (blkPos i x1))
    (k1_pay21 (k1_pay2 x7) (k1_pay7 x1) (k1_pay9 x7 x1 (blkPos i x1))) (k1_pay22 (k1_pay2 x7) (k1_pay6 (blkPos i x1)))
    (k1_pay23 (k1_pay2 x7) (k1_pay7 x1) (k1_pay9 x7 x1 (blkPos i x1)))

def sdenOf : FVec Ideal S256x2048 .f32 :=
  k1_pay27 (k1_pay4 x7) (k1_pay6 (blkPos i x1)) (k1_pay7 x1) (k1_pay8 x1 (blkPos i x1)) (k1_pay10 x7 x1 (blkPos i x1))
    (k1_pay21 (k1_pay2 x7) (k1_pay7 x1) (k1_pay9 x7 x1 (blkPos i x1))) (k1_pay22 (k1_pay2 x7) (k1_pay6 (blkPos i x1)))
    (k1_pay23 (k1_pay2 x7) (k1_pay7 x1) (k1_pay9 x7 x1 (blkPos i x1)))

def pcoOf : FVec Ideal S256x2048 .f32 :=
  k1_pay29 (gamOf i x1 x7) (sdenOf i x1 x7) (k1_pay28 (k1_pay21 (k1_pay2 x7) (k1_pay7 x1) (k1_pay9 x7 x1 (blkPos i x1))))

/-- The coefficient of the other position in the log map. -/
def qcoOf : FVec Ideal S256x2048 .f32 :=
  k1_pay30 (k1_pay22 (k1_pay2 x7) (k1_pay6 (blkPos i x1))) (gamOf i x1 x7) (sdenOf i x1 x7)

/-- The names of the stages, read from their texts. -/
theorem fold_pos : View.ld x1 (Rect.unit (s := S2048x16) (k1_off1 i) S256x16.size (k1_off1_inb i)) = blkPos i x1 := rfl

theorem fold_keys : keyOf (k1_pay6 (blkPos i x1)) (k1_pay7 x1) (k1_pay8 x1 (blkPos i x1)) (k1_pay10 x7 x1 (blkPos i x1))
    (k1_pay11 x7 x1 (blkPos i x1)) (k1_pay12 x7 x1) = keys i x1 x7 := rfl

theorem fold_gam : k1_pay26 (k1_pay3 x7) (k1_pay4 x7) (k1_pay6 (blkPos i x1)) (k1_pay7 x1) (k1_pay8 x1 (blkPos i x1))
    (k1_pay10 x7 x1 (blkPos i x1)) (k1_pay21 (k1_pay2 x7) (k1_pay7 x1) (k1_pay9 x7 x1 (blkPos i x1)))
    (k1_pay22 (k1_pay2 x7) (k1_pay6 (blkPos i x1))) (k1_pay23 (k1_pay2 x7) (k1_pay7 x1) (k1_pay9 x7 x1 (blkPos i x1)))
      = gamOf i x1 x7 := rfl

theorem fold_sden : k1_pay27 (k1_pay4 x7) (k1_pay6 (blkPos i x1)) (k1_pay7 x1) (k1_pay8 x1 (blkPos i x1))
    (k1_pay10 x7 x1 (blkPos i x1)) (k1_pay21 (k1_pay2 x7) (k1_pay7 x1) (k1_pay9 x7 x1 (blkPos i x1)))
    (k1_pay22 (k1_pay2 x7) (k1_pay6 (blkPos i x1))) (k1_pay23 (k1_pay2 x7) (k1_pay7 x1) (k1_pay9 x7 x1 (blkPos i x1)))
      = sdenOf i x1 x7 := rfl

theorem fold_pco : k1_pay29 (gamOf i x1 x7) (sdenOf i x1 x7)
    (k1_pay28 (k1_pay21 (k1_pay2 x7) (k1_pay7 x1) (k1_pay9 x7 x1 (blkPos i x1)))) = pcoOf i x1 x7 := rfl

theorem fold_qco : k1_pay30 (k1_pay22 (k1_pay2 x7) (k1_pay6 (blkPos i x1))) (gamOf i x1 x7) (sdenOf i x1 x7) = qcoOf i x1 x7 := rfl

/-- A head's scores over a grid point's blocks. -/
def scores (h : Fin 12) : FVec Ideal S256x2048 .f32 :=
  headScore h (blkPos i x1) (k1_pay5 x0) (biasOf ((step cols)^[16] (keys i x1 x7))) (pcoOf i x1 x7) (qcoOf i x1 x7)
    (k1_pay31 (k1_pay5 x0) x4 x6) (k1_pay32 (k1_pay5 x0) x4 x6 x5) k1_pay33
    (View.ld x8 (Rect.unit (s := S1x12) ![0, h.val] S1x1.size (head_slices h).2.2.2.2.2))
    (View.ld x2 (Rect.unit (s := S2048x768) ![0, 64 * h.val] S2048x64.size (head_slices h).2.2.2.1))

/-- A head's block of results. -/
def headOut (h : Fin 12) : FVec Ideal S256x64 .f32 :=
  mixOf (expOf (scores i x0 x1 x2 x4 x5 x6 x7 x8 h))
    (View.ld x3 (Rect.unit (s := S2048x768) ![0, 64 * h.val] S2048x64.size (head_slices h).2.2.2.1))

end Blocks

variable (V : (c : Dev nD) → (b : Ref sig .tc) → Buf (Elt Ideal) ((c : Thread nD τ).loc b))

/-- What the middle call leaves in its staging block: the heads beside each other. -/
theorem outs_heads (c : Dev nD) (t : Fin cfg1.N) (r : Fin 256) (h : Fin 12) (l : Fin 64) :
    outsAt1 V c t (ix2 r (headCol h l))
      = headOut (grid1.coords t) (iblk1 V c 0 t) (iblk1 V c 1 t) (iblk1 V c 2 t) (iblk1 V c 3 t) (iblk1 V c 4 t) (iblk1 V c 5 t)
          (iblk1 V c 6 t) (iblk1 V c 7 t) (iblk1 V c 8 t) h (ix2 r l) := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  frame_out
  rw [show iota Kind.tc S256x2048 32 [1] iota_S256x2048_d1_w32 = cols from rfl]
  simp only [text_least, text_key, text_bias, fold_pos, fold_keys, fold_gam, fold_sden, fold_pco, fold_qco, text0, text1, text2, text3,
    text4, text5, text6, text7, text8, text9, text10, text11]
  refine View.canon_ofFn_unit_eq_of_forall (Val := Elt Ideal) (S := S256x768) (e := .f32) (N := 12) (fun k => ![0, 64 * k.rev.val]) S256x64.size (fun k => (head_slices k.rev).2.2.2.2.1)
    (fun k => headOut (grid1.coords t) x0 x1 x2 x3 x4 x5 x6 x7 x8 k.rev) _ _ ?_ ?_
  · refine ⟨h.rev, ?_⟩
    rw [Fin.rev_rev]
    intro a
    fin_cases a
    · exact ⟨Nat.zero_le _, by simp [ix2]⟩
    · exact ⟨by simp [ix2, headCol], by simp [ix2, headCol]⟩
  · intro k y hy
    have h1 := hy 1
    have hl : (y 1).val < 64 := (y 1).isLt
    have e1 : 64 * h.val + l.val = 64 * k.rev.val + (y 1).val := h1
    obtain rfl : k.rev = h := Fin.ext (by omega)
    refine congrArg _ ((eq_ix2 (n0 := 256) (n1 := 64) y).trans ?_)
    have h0 : r.val = 0 + (y 0).val := hy 0
    exact congrArg₂ ix2 (Fin.ext (by omega)) (Fin.ext (by omega))

end Cert.KernelIdeal.Att

end
-- ==== Proof.Keys.lean ====
/- The middle call's blocks over real contents: the products of positions, the denominators and the keys of the
   selection, the log map's coefficients. -/
module

public import proofs.«01_k».proof.Proof.Heads
public import proofs.«01_k».proof.Proof.Spec

@[expose] public section

set_option maxRecDepth 16384

noncomputable section

namespace Cert.KernelIdeal.Att

open Idealize.ShloMosaic Cert.KernelIdeal Cert.KernelIdeal.Gen

/-- The constants of the program as reals. -/
theorem word_eps : Ideal.ofBits .f32 0x33D6BF95#32 = (eps : EReal) := by
  unfold eps; simp [Ideal.ofBits, Ideal.ieee, -EReal.coe_mul]; norm_num

theorem word_eta : Ideal.ofBits .f32 0x3F7FFFFE#32 = (eta : EReal) := by
  unfold eta; simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_big : Ideal.ofBits .f32 0x7EE1B1E6#32 = ((14791142 * 2 ^ 103 : ℝ) : EReal) := by
  simp [Ideal.ofBits, Ideal.ieee, -EReal.coe_mul]

theorem real_one : (1 : EReal) = ((1 : ℝ) : EReal) := rfl
theorem real_zero : (0 : EReal) = ((0 : ℝ) : EReal) := rfl
theorem real_max (a b : ℝ) : max (a : EReal) (b : EReal) = ((max a b : ℝ) : EReal) := (EReal.coe_strictMono.monotone.map_max).symm
theorem real_min (a b : ℝ) : min (a : EReal) (b : EReal) = ((min a b : ℝ) : EReal) := (EReal.coe_strictMono.monotone.map_min).symm

variable (x1 : Vec Ideal S2048x16 .f32) (x7 : Vec Ideal S1x1 .f32) (P : Vec Ideal S256x16 .f32) (c : ℝ) (X : Fin 2048 → Fin 16 → ℝ)
  (ρ : Fin 256 → Fin 2048) (hX : ∀ j p, x1 (ix2 j p) = (X j p : EReal)) (hP : ∀ r p, P (ix2 r p) = (X (ρ r) p : EReal))
  (hc : x7 (ix2 0 0) = (c : EReal)) (r : Fin 256) (j : Fin 2048)

include hc in
theorem pay_c : k1_pay2 x7 = (c : EReal) := by
  pointwise [k1_pay2]
  exact hc

include hP in
theorem pay_si : k1_pay6 P (ix2 r 0) = (sq X (ρ r) : EReal) := by
  pointwise [k1_pay6]
  simp only [hP, ← EReal.coe_mul, coe_sum]
  rfl

include hX in
theorem pay_sj : k1_pay7 x1 (ix2 0 j) = (sq X j : EReal) := by
  pointwise [k1_pay7, dot_S1x16_S2048x16_S1x2048_1_1_0_0_n_n]
  simp only [hX, ← EReal.coe_mul, coe_sum, one_mul]
  rfl

include hX hP in
theorem pay_g : k1_pay8 x1 P (ix2 r j) = (ip X (ρ r) j : EReal) := by
  pointwise [k1_pay8, dot_S256x16_S2048x16_S256x2048_1_1_0_0_n_n]
  simp only [hX, hP, ← EReal.coe_mul, coe_sum]
  rfl

include hX hP hc in
theorem pay_cg : k1_pay9 x7 x1 P (ix2 r j) = ((2 * c * ip X (ρ r) j : ℝ) : EReal) := by
  pointwise [k1_pay9]
  simp only [pay_c x7 c hc, pay_g x1 P X ρ hX hP, word_two, ← EReal.coe_mul]

include hX hP hc in
theorem pay_den : k1_pay10 x7 x1 P (ix2 r j) = (den c X (ρ r) j : EReal) := by
  pointwise [k1_pay10]
  simp only [pay_c x7 c hc, pay_cg x1 x7 P c X ρ hX hP hc, pay_si P X ρ hP, pay_sj x1 X hX, word_eps, real_one, ← EReal.coe_mul,
    ← EReal.coe_sub, ← EReal.coe_add, real_max]
  rfl

include hX hP hc in
theorem pay_a1 : k1_pay11 x7 x1 P (ix2 r j) = (ca c X j (ρ r) : EReal) := by
  pointwise [k1_pay11]
  simp only [pay_c x7 c hc, pay_cg x1 x7 P c X ρ hX hP hc, pay_si P X ρ hP, real_one, ← EReal.coe_mul,
    ← EReal.coe_sub, ← EReal.coe_add]
  unfold ca
  rw [ip_comm]

include hX hc in
theorem pay_cs : k1_pay12 x7 x1 (ix2 0 j) = ((c * sq X j : ℝ) : EReal) := by
  pointwise [k1_pay12]
  simp only [pay_c x7 c hc, pay_sj x1 X hX, ← EReal.coe_mul]

include hX hP hc in
/-- The keys of the selection, where they lie under half the large number. -/
theorem pay_key (hk : key c X (ρ r) j < 14791142 * 2 ^ 103) :
    keyOf (k1_pay6 P) (k1_pay7 x1) (k1_pay8 x1 P) (k1_pay10 x7 x1 P) (k1_pay11 x7 x1 P) (k1_pay12 x7 x1) (ix2 r j)
      = (key c X (ρ r) j : EReal) := by
  have hd := (mul_pos (den_pos c X (ρ r) j) (den_pos c X (ρ r) j)).ne'
  pointwise [keyOf]
  simp only [pay_sj x1 X hX, pay_si P X ρ hP, pay_g x1 P X ρ hX hP, pay_den x1 x7 P c X ρ hX hP hc, pay_a1 x1 x7 P c X ρ hX hP hc,
    pay_cs x1 x7 c X hX hc, word_two, word_big, real_one, ← EReal.coe_mul, ← EReal.coe_sub, ← EReal.coe_add, div_real _ _ hd, real_min]
  congr 1
  rw [← min_eq_left hk.le]
  congr 1
  unfold key num2 cb
  rw [den_comm c X j (ρ r), ip_comm X j (ρ r)]

end Cert.KernelIdeal.Att

end
-- ==== Proof.Geo.lean ====
/- The middle call's log map over real contents: the coefficients of the two positions. -/
module

public import proofs.«01_k».proof.Proof.Keys

@[expose] public section

set_option maxRecDepth 16384

noncomputable section

namespace Cert.KernelIdeal.Att

open Idealize.ShloMosaic Cert.KernelIdeal Cert.KernelIdeal.Gen

theorem real_rc (c : ℝ) : max (Ideal.sqrt (c : EReal)) (eps : EReal) = (rc c : EReal) := by
  rw [Ideal.sqrt_coe]
  unfold rc
  split
  · next h => rw [Real.sqrt_eq_zero_of_nonpos h.le, max_eq_right eps_pos.le]; exact max_eq_right bot_le
  · exact real_max _ _

theorem real_root (a : ℝ) (h : 0 ≤ a) : Ideal.sqrt (a : EReal) = ((√a : ℝ) : EReal) := by
  rw [Ideal.sqrt_coe, if_neg (not_lt.mpr h)]

theorem max_eps_ne (a : ℝ) : max a eps ≠ 0 := (lt_max_of_lt_right eps_pos).ne'

section Real

variable (c : ℝ) (X : Fin 2048 → Fin 16 → ℝ) (i j : Fin 2048)

theorem arg_pos : 0 < arg c X i j := lt_min (mul_pos (rc_pos c) (lt_max_of_lt_right eps_pos)) eta_pos
theorem arg_lt : arg c X i j < 1 := (min_le_right _ _).trans_lt eta_lt
theorem ratio_pos : 0 < (1 + arg c X i j) / (1 - arg c X i j) :=
  div_pos (add_pos one_pos (arg_pos c X i j)) (sub_pos.mpr (arg_lt c X i j))
theorem real_log (a : ℝ) (h : 0 < a) : Ideal.log (a : EReal) = (Real.log a : EReal) := by
  rw [Ideal.log_coe, if_neg (not_le.mpr h)]

end Real

variable (x1 : Vec Ideal S2048x16 .f32) (x7 : Vec Ideal S1x1 .f32) (P : Vec Ideal S256x16 .f32) (c : ℝ) (X : Fin 2048 → Fin 16 → ℝ)
  (ρ : Fin 256 → Fin 2048) (hX : ∀ j p, x1 (ix2 j p) = (X j p : EReal)) (hP : ∀ r p, P (ix2 r p) = (X (ρ r) p : EReal))
  (hc : x7 (ix2 0 0) = (c : EReal)) (r : Fin 256) (j : Fin 2048)

include hc in
theorem pay_rc : k1_pay3 x7 = (rc c : EReal) := by
  rw [← real_rc, ← word_eps, ← pay_c x7 c hc]
  pointwise [k1_pay3]
  rfl

include hc in
theorem pay_cap : k1_pay4 x7 = ((eta / rc c : ℝ) : EReal) := by
  rw [← div_real _ _ (rc_pos c).ne', ← pay_rc x7 c hc, ← word_eta]
  pointwise [k1_pay4]

include hX hP hc in
theorem pay_ca : k1_pay21 (k1_pay2 x7) (k1_pay7 x1) (k1_pay9 x7 x1 P) (ix2 r j) = (ca c X (ρ r) j : EReal) := by
  pointwise [k1_pay21]
  simp only [pay_c x7 c hc, pay_cg x1 x7 P c X ρ hX hP hc, pay_sj x1 X hX, real_one, ← EReal.coe_mul, ← EReal.coe_sub, ← EReal.coe_add]
  rfl

include hP hc in
theorem pay_cb : k1_pay22 (k1_pay2 x7) (k1_pay6 P) (ix2 r 0) = (cb c X (ρ r) : EReal) := by
  pointwise [k1_pay22]
  simp only [pay_c x7 c hc, pay_si P X ρ hP, real_one, ← EReal.coe_mul, ← EReal.coe_sub]
  rfl

include hX hP hc in
theorem pay_nrm : k1_pay24 (k1_pay6 P) (k1_pay7 x1) (k1_pay8 x1 P) (k1_pay10 x7 x1 P)
    (k1_pay21 (k1_pay2 x7) (k1_pay7 x1) (k1_pay9 x7 x1 P)) (k1_pay22 (k1_pay2 x7) (k1_pay6 P))
    (k1_pay23 (k1_pay2 x7) (k1_pay7 x1) (k1_pay9 x7 x1 P)) (ix2 r j) = (nrm c X (ρ r) j : EReal) := by
  pointwise [k1_pay24, k1_pay23]
  simp only [pay_sj x1 X hX, pay_si P X ρ hP, pay_g x1 P X ρ hX hP, pay_den x1 x7 P c X ρ hX hP hc, pay_ca x1 x7 P c X ρ hX hP hc,
    pay_cb x7 P c X ρ hP hc, word_two, real_zero, ← EReal.coe_mul, ← EReal.coe_sub, ← EReal.coe_add, real_max]
  rw [real_root _ (le_max_right _ _), div_real _ _ (den_pos _ _ _ _).ne']
  rfl

include hX hP hc in
theorem pay_scl : k1_pay25 (k1_pay4 x7) (k1_pay6 P) (k1_pay7 x1) (k1_pay8 x1 P) (k1_pay10 x7 x1 P)
    (k1_pay21 (k1_pay2 x7) (k1_pay7 x1) (k1_pay9 x7 x1 P)) (k1_pay22 (k1_pay2 x7) (k1_pay6 P))
    (k1_pay23 (k1_pay2 x7) (k1_pay7 x1) (k1_pay9 x7 x1 P)) (ix2 r j) = (scl c X (ρ r) j : EReal) := by
  pointwise [k1_pay25]
  simp only [pay_cap x7 c hc, pay_nrm x1 x7 P c X ρ hX hP hc, word_eps, real_one, real_max, div_real _ _ (max_eps_ne _), real_min]
  rfl

include hX hP hc in
theorem pay_gam : k1_pay26 (k1_pay3 x7) (k1_pay4 x7) (k1_pay6 P) (k1_pay7 x1) (k1_pay8 x1 P) (k1_pay10 x7 x1 P)
    (k1_pay21 (k1_pay2 x7) (k1_pay7 x1) (k1_pay9 x7 x1 P)) (k1_pay22 (k1_pay2 x7) (k1_pay6 P))
    (k1_pay23 (k1_pay2 x7) (k1_pay7 x1) (k1_pay9 x7 x1 P)) (ix2 r j) = (gam c X (ρ r) j : EReal) := by
  pointwise [k1_pay26]
  simp only [pay_rc x7 c hc, pay_nrm x1 x7 P c X ρ hX hP hc, pay_scl x1 x7 P c X ρ hX hP hc, word_eps, word_eta, word_half,
    ← EReal.coe_mul, real_max, real_min]
  rw [show nrm c X (ρ r) j * scl c X (ρ r) j = nrmP c X (ρ r) j from rfl,
    show min (rc c * max (nrmP c X (ρ r) j) eps) eta = arg c X (ρ r) j from rfl]
  simp only [real_one, ← EReal.coe_sub, ← EReal.coe_add, div_real _ _ (sub_pos.mpr (arg_lt c X (ρ r) j)).ne',
    real_log _ (ratio_pos c X (ρ r) j), ← EReal.coe_mul, div_real _ _ (rc_pos c).ne', div_real _ _ (max_eps_ne _), EReal.coe_lt_coe_iff]
  unfold gam
  by_cases h : nrmP c X (ρ r) j < eps
  · simp [h]
  · simp [h]

theorem real_zero_sub (a : ℝ) : (0 : EReal) - (a : EReal) = ((0 - a : ℝ) : EReal) := rfl

variable (i : grid1.Coords) (hB : ∀ r p, blkPos i x1 (ix2 r p) = (X (ρ r) p : EReal))

include hX hB hc in
theorem pay_sden : sdenOf i x1 x7 (ix2 r j) = ((scl c X (ρ r) j / den c X (ρ r) j : ℝ) : EReal) := by
  unfold sdenOf
  rw [← div_real _ _ (den_pos c X (ρ r) j).ne', ← pay_scl x1 x7 _ c X ρ hX hB hc, ← pay_den x1 x7 _ c X ρ hX hB hc]
  pointwise [k1_pay27]

include hX hB hc in
theorem pay_pco : pcoOf i x1 x7 (ix2 r j) = (pco c X (ρ r) j : EReal) := by
  have hs := pay_sden x1 x7 c X ρ hX hc r j i hB
  have hg : gamOf i x1 x7 (ix2 r j) = _ := pay_gam x1 x7 _ c X ρ hX hB hc r j
  have ha := pay_ca x1 x7 _ c X ρ hX hB hc r j
  unfold pcoOf
  generalize sdenOf i x1 x7 = s at *
  generalize gamOf i x1 x7 = g at *
  generalize k1_pay21 (k1_pay2 x7) (k1_pay7 x1) (k1_pay9 x7 x1 (blkPos i x1)) = a at *
  pointwise [k1_pay29, k1_pay28]
  simp only [hs, hg, ha, real_zero, ← EReal.coe_sub, ← EReal.coe_mul]
  rfl

include hX hB hc in
theorem pay_qco : qcoOf i x1 x7 (ix2 r j) = (qco c X (ρ r) j : EReal) := by
  have hs := pay_sden x1 x7 c X ρ hX hc r j i hB
  have hg : gamOf i x1 x7 (ix2 r j) = _ := pay_gam x1 x7 _ c X ρ hX hB hc r j
  have hb := pay_cb x7 _ c X ρ hB hc r
  unfold qcoOf
  generalize sdenOf i x1 x7 = s at *
  generalize gamOf i x1 x7 = g at *
  generalize k1_pay22 (k1_pay2 x7) (k1_pay6 (blkPos i x1)) = b at *
  pointwise [k1_pay30]
  simp only [hs, hg, hb, ← EReal.coe_mul]
  rfl

end Cert.KernelIdeal.Att

end
-- ==== Proof.KAtt.lean ====
/- The middle call's heads over real contents. -/
module

public import proofs.«01_k».proof.Proof.Geo
public import proofs.«01_k».proof.Proof.Soft

@[expose] public section

set_option maxRecDepth 16384

noncomputable section

namespace Cert.KernelIdeal.Att

open Idealize.ShloMosaic Cert.KernelIdeal Cert.KernelIdeal.Gen

theorem word_log2e : (Named.named κ "log2e" 0x3FB8AA3B#32 : Ideal .f32) = (((Real.log 2)⁻¹ : ℝ) : EReal) :=
  IdealRules.named_const.ideal_named_scalar _ _ _ _ rfl

theorem real_eighth : k1_pay33 (F := Ideal) = ((1 / 8 : ℝ) : EReal) := by
  have h : Ideal.sqrt (Ideal.ofBits .f32 0x42800000#32) = ((8 : ℝ) : EReal) := by
    rw [word_64, real_root _ (by norm_num), show (64 : ℝ) = 8 * 8 by norm_num, Real.sqrt_mul_self (by norm_num)]
  have h2 : k1_pay33 (F := Ideal) = Ideal.div 1 (Ideal.sqrt (Ideal.ofBits .f32 0x42800000#32)) := by
    pointwise [k1_pay33]
    rfl
  rw [h2, h, real_one, div_real _ _ (by norm_num)]

variable (h : Fin 12) (v8 : Vec Ideal S256x16 .f32) (v10 : FVec Ideal S256x768 .bf16) (v257 v318 v321 : FVec Ideal S256x2048 .f32)
    (v330 : FVec Ideal S256x192 .f32) (v335 : FVec Ideal S256x24576 .bf16) (v337 : Ideal .f32) (fs : Vec Ideal S1x1 .f32)
    (kh vh : Vec Ideal S2048x64 .bf16) (r : Fin 256) (j : Fin 2048) (l : Fin 64) (e : FVec Ideal S256x2048 .f32)

theorem head_score : headScore h v8 v10 v257 v318 v321 v330 v335 v337 fs kh (ix2 r j)
    = (∑ d : Fin 64, v10 (ix2 r (headCol h d)) * (fs (ix2 0 0) * (v337 * (((Real.log 2)⁻¹ : ℝ) : EReal))) * kh (ix2 j d))
      + v318 (ix2 r j) * (∑ p : Fin 16, v330 (ix2 r ⟨16 * h.val + p.val, by omega⟩) * v8 (ix2 r p))
      + v321 (ix2 r j) * v335 (ix2 r ⟨2048 * h.val + j.val, by omega⟩) + v257 (ix2 r j) := by
  rw [← word_log2e]
  pointwise [headScore, dot_S256x64_S2048x64_S256x2048_1_1_0_0_n_n]
  rfl

theorem word_least : Ideal.ofBits .f32 0xFF800000#32 = (⊥ : EReal) := by
  simp [Ideal.ofBits, Ideal.ieee]

theorem head_exp : expOf e (ix2 r j) = Ideal.exp2 (e (ix2 r j) - Finset.univ.fold max ⊥ fun j => e (ix2 r j)) := by
  rw [← word_least]
  pointwise [expOf]
  rfl

theorem head_mix : mixOf e vh (ix2 r l)
    = (∑ j, e (ix2 r j) * vh (ix2 j l)) * Ideal.div 1 (∑ j, e (ix2 r j)) := by
  pointwise [mixOf, dot_S256x2048_S2048x64_S256x64_1_0_0_1_n_n]

/-- Column `p` of head `h` among the weights' columns, and column `j` of head `h` among the positions' columns. -/
def geoCol (h : Fin 12) (p : Fin 16) : Fin 192 := ⟨16 * h.val + p.val, by omega⟩
def posCol (h : Fin 12) (j : Fin 2048) : Fin 24576 := ⟨2048 * h.val + j.val, by omega⟩

/-- A sum that only a head's columns enter. -/
theorem sum_cols {M : Type} [AddCommMonoid M] {n m : ℕ} (col : Fin m → Fin n) (hc : Function.Injective col) (f : Fin n → M)
    (hf : ∀ d, (∀ p, col p ≠ d) → f d = 0) : ∑ d, f d = ∑ p, f (col p) :=
  (Finset.sum_of_injOn col hc.injOn (fun _ _ => Finset.mem_univ _)
    (fun d _ hd => hf d fun p e => hd ⟨p, Finset.mem_coe.mpr (Finset.mem_univ _), e⟩) fun _ _ => rfl).symm

theorem headCol_inj (h : Fin 12) : Function.Injective (headCol h) := fun a b e => by
  simp only [headCol, Fin.mk.injEq] at e; exact Fin.ext (by omega)

theorem geoCol_inj (h : Fin 12) : Function.Injective (geoCol h) := fun a b e => by
  simp only [geoCol, Fin.mk.injEq] at e; exact Fin.ext (by omega)

theorem geoCol_cases (m : Fin 192) : ∃ h p, m = geoCol h p :=
  ⟨⟨m.val / 16, by omega⟩, ⟨m.val % 16, by omega⟩, Fin.ext (by simp only [geoCol]; omega)⟩

theorem ld_head (y : Vec Ideal S2048x768 .bf16) (h : Fin 12) (j : Fin 2048) (l : Fin 64) :
    View.ld y (Rect.unit (s := S2048x768) ![0, 64 * h.val] S2048x64.size (head_slices h).2.2.2.1) (ix2 j l) = y (ix2 j (headCol h l)) :=
  View.ld_unit_apply_of (S := S2048x768) (e := .bf16) y _ _ _ (ix2 j l) (ix2 j (headCol h l))
    (Fin.forall_fin_two.mpr ⟨(Nat.zero_add _).symm, rfl⟩)

theorem ld_scale (y : Vec Ideal S1x12 .f32) (h : Fin 12) :
    View.ld y (Rect.unit (s := S1x12) ![0, h.val] S1x1.size (head_slices h).2.2.2.2.2) (ix2 0 0) = y (ix2 0 h) :=
  View.ld_unit_apply_of (S := S1x12) (e := .f32) y _ _ _ (ix2 0 0) (ix2 0 h) (Fin.forall_fin_two.mpr ⟨rfl, rfl⟩)

section Blocks

variable (i : grid1.Coords) (x0 : Vec Ideal S256x768 .bf16) (x1 : Vec Ideal S2048x16 .f32) (x2 x3 : Vec Ideal S2048x768 .bf16)
  (x4 : Vec Ideal S768x192 .bf16) (x5 : Vec Ideal S192x24576 .bf16) (x6 : Vec Ideal S1x192 .f32) (x7 : Vec Ideal S1x1 .f32)
  (x8 : Vec Ideal S1x12 .f32)
  (c : ℝ) (X : Fin 2048 → Fin 16 → ℝ) (Q K : Fin 2048 → Fin 768 → ℝ) (Wg : Fin 16 → Fin 768 → ℝ) (al f : Fin 12 → ℝ)
  (V : Fin 2048 → Fin 768 → EReal) (ρ : Fin 256 → Fin 2048)

/-- What the middle call's blocks hold. -/
structure Holds : Prop where
  q : ∀ r l, x0 (ix2 r l) = (Q (ρ r) l : EReal)
  x : ∀ j p, x1 (ix2 j p) = (X j p : EReal)
  own : ∀ r p, blkPos i x1 (ix2 r p) = (X (ρ r) p : EReal)
  k : ∀ j l, x2 (ix2 j l) = (K j l : EReal)
  v : ∀ j l, x3 (ix2 j l) = V j l
  wt : ∀ d h p, x4 (ix2 d (geoCol h p)) = if d.val / 64 = h.val then (Wg p d : EReal) else 0
  pos : ∀ h h' p j, x5 (ix2 (geoCol h' p) (posCol h j)) = if h' = h then (X j p : EReal) else 0
  ascr : ∀ h p, x6 (ix2 0 (geoCol h p)) = (al h : EReal)
  c : x7 (ix2 0 0) = (c : EReal)
  fsc : ∀ h, x8 (ix2 0 h) = (f h : EReal)

variable {i x0 x1 x2 x3 x4 x5 x6 x7 x8 c X Q K Wg al f V ρ}
variable (H : Holds i x0 x1 x2 x3 x4 x5 x6 x7 x8 c X Q K Wg al f V ρ) (r : Fin 256) (h : Fin 12) (j : Fin 2048) (p : Fin 16) (l : Fin 64)

include H in
theorem pay_q : k1_pay5 x0 (ix2 r (headCol h l)) = (Q (ρ r) (headCol h l) : EReal) := by
  rw [← H.q]
  pointwise [k1_pay5]

include H in
theorem pay_qg : k1_pay31 (k1_pay5 x0) x4 x6 (ix2 r (geoCol h p))
    = ((qw Q Wg (ρ r) h p * (al h * (Real.log 2)⁻¹) : ℝ) : EReal) := by
  have e : k1_pay31 (k1_pay5 x0) x4 x6 (ix2 r (geoCol h p)) = (∑ d : Fin 768, x0 (ix2 r d) * x4 (ix2 d (geoCol h p)))
      * (x6 (ix2 0 (geoCol h p)) * (((Real.log 2)⁻¹ : ℝ) : EReal)) := by
    rw [← word_log2e]
    pointwise [k1_pay31, k1_pay5, dot_S256x768_S768x192_S256x192_1_0_0_1_n_n]
  rw [e, sum_cols (headCol h) (headCol_inj h)]
  · simp only [H.q, H.wt, H.ascr, headCol]
    have e2 (d : Fin 64) : (64 * h.val + d.val) / 64 = h.val := by omega
    simp only [e2, if_true, ← EReal.coe_mul, coe_sum]
    rfl
  · intro d hd
    rw [H.wt, if_neg, mul_zero]
    intro hh
    exact hd ⟨d.val % 64, by omega⟩ (Fin.ext (by simp only [headCol]; omega))

include H in
theorem pay_qp : k1_pay32 (k1_pay5 x0) x4 x6 x5 (ix2 r (posCol h j))
    = ((∑ p, qw Q Wg (ρ r) h p * (al h * (Real.log 2)⁻¹) * X j p : ℝ) : EReal) := by
  have e : k1_pay32 (k1_pay5 x0) x4 x6 x5 (ix2 r (posCol h j)) = ∑ m : Fin 192, k1_pay31 (k1_pay5 x0) x4 x6 (ix2 r m) * x5 (ix2 m (posCol h j)) := by
    generalize k1_pay5 x0 = y
    pointwise [k1_pay32, dot_S256x192_S192x24576_S256x24576_1_0_0_1_n_n]
  rw [e, sum_cols (geoCol h) (geoCol_inj h)]
  · simp only [pay_qg H, H.pos, if_true, ← EReal.coe_mul, coe_sum]
  · intro m hm
    obtain ⟨h', p, rfl⟩ := geoCol_cases m
    rw [H.pos, if_neg (fun e => hm p (by rw [e])), mul_zero]

include H in
theorem score_real (hk : ∀ j, key c X (ρ r) j < 14791142 * 2 ^ 103) :
    scores i x0 x1 x2 x4 x5 x6 x7 x8 h (ix2 r j)
      = if j ∈ Finset.univ.image (sel c X (ρ r)) then ((score c X Q K Wg al f (ρ r) h j * (Real.log 2)⁻¹ : ℝ) : EReal) else ⊥ := by
  have hb := bias_rounds (keys i x1 x7) r (key c X (ρ r)) (fun j => pay_key x1 x7 _ c X ρ H.x H.own H.c r j (hk j))
    (fun j => (hk j).trans_le (by norm_num)) (fun a b => decide (key c X (ρ r) a < key c X (ρ r) b)) (fun _ _ => decide_eq_true_iff) j
  have hkh := fun j d => (ld_head x2 h j d).trans (H.k j (headCol h d))
  unfold scores
  generalize View.ld x2 (Rect.unit (s := S2048x768) ![0, 64 * h.val] S2048x64.size (head_slices h).2.2.2.1) = kh at *
  rw [head_score, hb, ld_scale, H.fsc, real_eighth, pay_pco x1 x7 c X ρ H.x H.c r j i H.own, pay_qco x1 x7 c X ρ H.x H.c r j i H.own]
  have hp := pay_qp H r h j
  have hg := fun p => pay_qg H r h p
  unfold posCol at hp
  unfold geoCol at hg
  rw [hp]
  simp only [hg, pay_q H, H.own, hkh, ← EReal.coe_mul, coe_sum, ← EReal.coe_add]
  have hz : (∑ d, Q (ρ r) (headCol h d) * (f h * (1 / 8 * (Real.log 2)⁻¹)) * K j (headCol h d))
        + pco c X (ρ r) j * ∑ p, qw Q Wg (ρ r) h p * (al h * (Real.log 2)⁻¹) * X (ρ r) p
        + qco c X (ρ r) j * ∑ p, qw Q Wg (ρ r) h p * (al h * (Real.log 2)⁻¹) * X j p
      = score c X Q K Wg al f (ρ r) h j * (Real.log 2)⁻¹ := by
    have h1 : ∑ d, Q (ρ r) (headCol h d) * (f h * (1 / 8 * (Real.log 2)⁻¹)) * K j (headCol h d)
        = (f h * (1 / 8 * (Real.log 2)⁻¹)) * ∑ d, Q (ρ r) (headCol h d) * K j (headCol h d) := by
      rw [Finset.mul_sum]; exact Finset.sum_congr rfl fun d _ => by ring
    have h2 (j : Fin 2048) : ∑ p, qw Q Wg (ρ r) h p * (al h * (Real.log 2)⁻¹) * X j p
        = (al h * (Real.log 2)⁻¹) * ∑ p, qw Q Wg (ρ r) h p * X j p := by
      rw [Finset.mul_sum]; exact Finset.sum_congr rfl fun d _ => by ring
    rw [h1, h2, h2]
    unfold score
    ring
  rw [hz]
  show _ + (if j ∈ Finset.univ.image (sel c X (ρ r)) then (0 : EReal) else ⊥) = _
  split
  · exact add_zero _
  · exact EReal.add_bot _

theorem sel_inj (c : ℝ) (X : Fin 2048 → Fin 16 → ℝ) (i : Fin 2048) : Function.Injective (sel c X i) := by
  intro a b e
  have h := congrArg Fin.val (sortedFrom_injective _ e)
  exact Fin.ext h

include H in
/-- A head's result. -/
theorem head_real (hk : ∀ j, key c X (ρ r) j < 14791142 * 2 ^ 103) :
    headOut i x0 x1 x2 x3 x4 x5 x6 x7 x8 h (ix2 r l) = attend c X Q K Wg al f V (ρ r) h l := by
  have hvh := fun j => (ld_head x3 h j l).trans (H.v j (headCol h l))
  unfold headOut
  generalize View.ld x3 (Rect.unit (s := S2048x768) ![0, 64 * h.val] S2048x64.size (head_slices h).2.2.2.1) = vh at *
  rw [head_mix]
  simp only [head_exp, hvh]
  have hs := soft_masked (Finset.univ.image (sel c X (ρ r))) ⟨_, Finset.mem_image_of_mem _ (Finset.mem_univ 0)⟩
    (score c X Q K Wg al f (ρ r) h) (fun j => V j (headCol h l)) (fun j => scores i x0 x1 x2 x4 x5 x6 x7 x8 h (ix2 r j))
    fun j => score_real H r h j hk
  refine hs.trans ?_
  rw [sum_image_list _ (sel_inj c X (ρ r)), sum_image_list _ (sel_inj c X (ρ r))]
  rfl

end Blocks

end Cert.KernelIdeal.Att

end
-- ==== Proof.Ins.lean ====
/- What both programs' arguments hold: real entries wherever the attention reads. -/
module

public import proofs.«01_k».proof.Proof.Rows
public import proofs.«01_k».proof.Proof.Spec
public import proofs.«01_k».proof.Proof.Geo
public import proofs.«01_k».proof.Proof.Soft

@[expose] public section

noncomputable section

namespace Cert.KernelIdeal.Att

open Idealize.ShloMosaic Cert.KernelIdeal

section Real

/-- A constant of the layer norm. -/
theorem word_768 : Ideal.ofBits .f32 0x44400000#32 = ((768 : ℝ) : EReal) := by
  simp [Ideal.ofBits, Ideal.ieee, -EReal.coe_mul]; norm_num

theorem word_ln : ∃ e : ℝ, 0 < e ∧ Ideal.ofBits .f32 0x358637BD#32 = (e : EReal) := by
  refine ⟨8796093 * (2 ^ 43)⁻¹, by positivity, ?_⟩
  simp [Ideal.ofBits, Ideal.ieee, -EReal.coe_mul]

/-- The layer norm of a row of reals is real. -/
theorem ln_real (x s b : Fin 768 → EReal) (hx : ∀ k, ∃ r : ℝ, x k = r) (hs : ∀ k, ∃ r : ℝ, s k = r) (hb : ∀ k, ∃ r : ℝ, b k = r) (l : Fin 768) :
    ∃ r : ℝ, lnRow x s b l = r := by
  choose x' hx using hx
  choose s' hs using hs
  choose b' hb using hb
  obtain ⟨e, he, hw⟩ := word_ln
  have hm : meanRow x = (((∑ k, x' k) / 768 : ℝ) : EReal) := by
    unfold meanRow
    simp only [hx, coe_sum, word_768]
    exact div_real _ _ (by norm_num)
  have hv : varRow x = (((∑ k, (x' k - (∑ k, x' k) / 768) * (x' k - (∑ k, x' k) / 768)) / 768 : ℝ) : EReal) := by
    unfold varRow
    simp only [hm, hx, word_768, ← EReal.coe_sub, ← EReal.coe_mul, coe_sum]
    exact div_real _ _ (by norm_num)
  have hp : 0 < (∑ k, (x' k - (∑ k, x' k) / 768) * (x' k - (∑ k, x' k) / 768)) / 768 + e :=
    add_pos_of_nonneg_of_pos (div_nonneg (Finset.sum_nonneg fun k _ => mul_self_nonneg _) (by norm_num)) he
  unfold lnRow
  rw [hm, hv, hw, hx, hs, hb, ← EReal.coe_sub, ← EReal.coe_add, real_root _ hp.le, div_real _ _ (Real.sqrt_pos.mpr hp).ne', ← EReal.coe_mul,
    ← EReal.coe_add]
  exact ⟨_, rfl⟩

/-- A real row through a real dense layer is real. -/
theorem dense_real {n m : ℕ} (x : Fin n → EReal) (W : Fin n → Fin m → EReal) (b : Fin m → EReal) (hx : ∀ k, ∃ r : ℝ, x k = r)
    (hW : ∀ k l, ∃ r : ℝ, W k l = r) (hb : ∀ k, ∃ r : ℝ, b k = r) (l : Fin m) : ∃ r : ℝ, denseRow x W b l = r := by
  choose x' hx using hx
  choose W' hW using hW
  choose b' hb using hb
  unfold denseRow
  simp only [hx, hW, hb, ← EReal.coe_mul, coe_sum, ← EReal.coe_add]
  exact ⟨_, rfl⟩

end Real

variable (x0 : FVec Ideal S2048x768 .f32) (x1 : FVec Ideal S2048x16 .f32) (x2 : FVec Ideal S_ .f32) (x3 x5 : FVec Ideal S768x768 .f32)
  (x4 x6 : FVec Ideal S768 .f32) (x9 : FVec Ideal S16x768 .f32) (x10 : FVec Ideal S768 .f32) (x17 x18 : FVec Ideal S768 .f32)
  (x21 x22 : FVec Ideal S12 .f32)

/-- The arguments that the attention reads hold reals; the queries and keys are then real as well. -/
structure Ins (κ : ℝ) (X : Fin 2048 → Fin 16 → ℝ) (Q K : Fin 2048 → Fin 768 → ℝ) (Wg : Fin 16 → Fin 768 → ℝ) (bg : Fin 768 → ℝ) (al f : Fin 12 → ℝ) :
    Prop where
  pos : ∀ j p, x1 (ix2 j p) = (X j p : EReal)
  curv : x2 ix0 = (κ : EReal)
  q : ∀ i l, denseRow (lnRow (fun k => x0 (ix2 i k)) (fun k => x17 (ix1 k)) fun k => x18 (ix1 k)) (fun k l => x3 (ix2 k l))
        (fun l => x4 (ix1 l)) l = (Q i l : EReal)
  k : ∀ i l, denseRow (lnRow (fun k => x0 (ix2 i k)) (fun k => x17 (ix1 k)) fun k => x18 (ix1 k)) (fun k l => x5 (ix2 k l))
        (fun l => x6 (ix1 l)) l = (K i l : EReal)
  wg : ∀ p d, x9 (ix2 p d) = (Wg p d : EReal)
  bg : ∀ d, x10 (ix1 d) = (bg d : EReal)
  al : ∀ h, x21 (ix1 h) = (al h : EReal)
  fs : ∀ h, x22 (ix1 h) = (f h : EReal)

/-- The head and the column within it of a column. -/
def headOf (l : Fin 768) : Fin 12 := ⟨l.val / 64, by omega⟩
def withinOf (l : Fin 768) : Fin 64 := ⟨l.val % 64, by omega⟩

theorem headCol_of (l : Fin 768) : headCol (headOf l) (withinOf l) = l := Fin.ext (by simp only [headCol, headOf, withinOf]; omega)

end Cert.KernelIdeal.Att

end
-- ==== Proof.ArrAtt.lean ====
/- The array that the middle call leaves, over real contents. -/
module

public import proofs.«01_k».proof.Proof.KAtt
public import proofs.«01_k».proof.Proof.Ins

@[expose] public section

set_option maxRecDepth 16384

noncomputable section

namespace Cert.KernelIdeal.Att

open Idealize.ShloMosaic Idealize.ShloMosaic.TcCoe Idealize.ShloMosaic.Tactic Cert.KernelIdeal Cert.KernelIdeal.Gen

variable (W : (c : Dev nD) → (b : Ref sig .tc) → Buf (Elt Ideal) ((c : Thread nD τ).loc b))

/-- The rows of positions that a grid point reads for its own. -/
theorem blk_pos (x1 : Vec Ideal S2048x16 .f32) (t : Fin cfg1.N) (r : Fin 256) (p : Fin 16) :
    blkPos (grid1.coords t) x1 (ix2 r p) = x1 (ix2 (rowOf t r) p) := by
  have h : ∀ t : Fin cfg1.N, k1_off1 (grid1.coords t) = ![t.val * 256, 0] := by decide +kernel
  refine View.ld_unit_apply_of (S := S2048x16) (e := .f32) x1 _ _ _ (ix2 r p) (ix2 (rowOf t r) p) (Fin.forall_fin_two.mpr ⟨?_, ?_⟩)
  · exact (congrArg (fun o : Fin 2 → ℕ => o 0 + r.val) (h t)).symm
  · exact ((congrArg (fun o : Fin 2 → ℕ => o 1 + p.val) (h t)).trans (Nat.zero_add _)).symm

variable (c : Dev nD) (κ : ℝ) (X : Fin 2048 → Fin 16 → ℝ) (Q K : Fin 2048 → Fin 768 → ℝ) (Wg : Fin 16 → Fin 768 → ℝ) (al f : Fin 12 → ℝ)
  (V : Fin 2048 → Fin 768 → EReal)

/-- What the middle call's operands hold. -/
structure Feeds : Prop where
  q : ∀ i l, W c main_v7_0 (ix2 i l) = (Q i l : EReal)
  x : ∀ j p, W c main_arg1 (ix2 j p) = (X j p : EReal)
  k : ∀ j l, W c main_v7_1 (ix2 j l) = (K j l : EReal)
  v : ∀ j l, W c main_v7_2 (ix2 j l) = V j l
  wt : ∀ d h p, W c main_v135 (ix2 d (geoCol h p)) = if d.val / 64 = h.val then (Wg p d : EReal) else (0 : EReal)
  pos : ∀ h h' p j, W c main_v131 (ix2 (geoCol h' p) (posCol h j)) = if h' = h then (X j p : EReal) else (0 : EReal)
  ascr : ∀ h p, W c main_v134 (ix2 0 (geoCol h p)) = (al h : EReal)
  curv : W c main_v0 (ix2 0 0) = (κ : EReal)
  fsc : ∀ h, W c main_v136 (ix2 0 h) = (f h : EReal)

variable {W c κ X Q K Wg al f V}

theorem holds (H : Feeds W c κ X Q K Wg al f V) (t : Fin cfg1.N) :
    Holds (grid1.coords t) (iblk1 W c 0 t) (iblk1 W c 1 t) (iblk1 W c 2 t) (iblk1 W c 3 t) (iblk1 W c 4 t) (iblk1 W c 5 t)
      (iblk1 W c 6 t) (iblk1 W c 7 t) (iblk1 W c 8 t) κ X Q K Wg al f V (rowOf t) := by
  obtain ⟨e1, e2, e3, e4, e5, e6, e7, e8⟩ := whole1 W c t
  rw [e1, e2, e3, e4, e5, e6, e7, e8]
  exact ⟨fun r l => (rows1 W c t r l).1.trans (H.q _ _), H.x, fun r p => (blk_pos _ t r p).trans (H.x _ _), H.k, H.v, H.wt, H.pos,
    H.ascr, H.curv, H.fsc⟩

/-- What the middle call leaves in its output array. -/
theorem arr_att (H : Feeds W c κ X Q K Wg al f V) (hk : ∀ i j, key κ X i j < 14791142 * 2 ^ 103) :
    (dat1 W c).arrAt 9 cfg1.N = fun i : S2048x768.Idx =>
      attend κ X Q K Wg al f V (i 0) (headOf (i 1)) (withinOf (i 1)) := by
  refine (dat1 W c).arrAt_eq_of_covers 9 _ (by decide +kernel) fun t hf y => ?_
  blk_simp
  rw [after1_9]
  obtain ⟨r, l, rfl⟩ : ∃ (r : Fin 256) (l : Fin 768), y = ix2 r l := ⟨y 0, y 1, eq_ix2 y⟩
  rw [(rows1 W c t r l).2]
  obtain ⟨h, d, rfl⟩ : ∃ (h : Fin 12) (d : Fin 64), l = headCol h d := ⟨_, _, (headCol_of l).symm⟩
  refine (outs_heads W c t r h d).trans ((head_real (holds H t) r h d (hk _)).trans ?_)
  have e1 : headOf (headCol h d) = h := Fin.ext (by simp only [headCol, headOf]; omega)
  have e2 : withinOf (headCol h d) = d := Fin.ext (by simp only [headCol, withinOf]; omega)
  show _ = attend κ X Q K Wg al f V (rowOf t r) (headOf (headCol h d)) (withinOf (headCol h d))
  rw [e1, e2]

end Cert.KernelIdeal.Att

end
-- ==== Proof.Scat.lean ====
/- A block written into a matrix at a corner, read at an entry. -/
module

public import proofs.«01_k».proof.Proof.KAtt
public import Idealize.ShloMosaic.Lib.Routing.OpsOne

@[expose] public section

set_option maxRecDepth 16384

noncomputable section

namespace Cert.KernelIdeal.Att

open Idealize.ShloMosaic Cert.KernelIdeal Cert.KernelIdeal.Gen

/-- Two index words beside each other. -/
def pairOf (a b : IVec S1 32) : IVec S2 32 := concatenate S2 0 [⟨S1, a⟩, ⟨S1, b⟩] concatenates_S1_S1_S2_d0

theorem fold_pair (a b : IVec S1 32) : concatenate S2 0 [⟨S1, a⟩, ⟨S1, b⟩] concatenates_S1_S1_S2_d0 = pairOf a b := rfl

/-- The pair of index words that a block's corner is given by. -/
def corner (a b : BitVec 32) : IVec S2 32 :=
  pairOf (broadcastInDim S1 ![] bcast_S_S1 (constantI S_ 32 a)) (broadcastInDim S1 ![] bcast_S_S1 (constantI S_ 32 b))

theorem corner_apply (a b : BitVec 32) : corner a b (ix1 (0 : Fin 2)) = a ∧ corner a b (ix1 (1 : Fin 2)) = b := by
  constructor <;> pointwise [corner, pairOf]

section Block

variable {α : Type} {R C A B : Nat} (d : ScatterDims (Routing.shape2 R C) (Routing.shape1 2) (Routing.shape2 A B))
    (hw : ∀ (u : Fin A) (v : Fin B), d.window (ix2 u v) 0 = u.val ∧ d.window (ix2 u v) 1 = v.val)
    (hsd : d.scatterDimsToOperandDims = [0, 1]) (hivd : d.indexVectorDim = 0) (x : (Routing.shape2 R C).Idx → α) (idx : IVec (Routing.shape1 2) 32)
    (upd : (Routing.shape2 A B).Idx → α) (a b : ℕ) (ha : (idx (ix1 (0 : Fin 2))).toInt = a) (hb : (idx (ix1 (1 : Fin 2))).toInt = b)
    (r : Fin R) (c : Fin C)

include hw hsd hivd ha hb in
theorem lands_block (u : Fin A) (v : Fin B) : d.resultIdx? (ix2 u v) idx = some (ix2 r c) ↔ a + u.val = r.val ∧ b + v.val = c.val := by
  refine (Routing.resultIdx?_ix2 d (ix2 u v) idx r c).trans ?_
  have h0 : d.start (ix2 u v) idx 0 = a := (Routing.start_pair d hsd hivd idx (ix2 u v) 0).trans ha
  have h1 : d.start (ix2 u v) idx 1 = b := (Routing.start_pair d hsd hivd idx (ix2 u v) 1).trans hb
  rw [h0, h1, (hw u v).1, (hw u v).2]
  omega

include hw hsd hivd ha hb in
theorem block_hit (u : Fin A) (v : Fin B) (hr : a + u.val = r.val) (hc : b + v.val = c.val) :
    Host.scatter d (fun _ b => b) x idx upd (ix2 r c) = upd (ix2 u v) := by
  refine Routing.scatter_set_hit d x idx upd _ _ (fun k hk => ?_) (ix2 u v) ((lands_block d hw hsd hivd idx a b ha hb r c u v).2 ⟨hr, hc⟩)
  obtain ⟨u', v', rfl⟩ : ∃ (u : Fin A) (v : Fin B), k = ix2 u v := ⟨k 0, k 1, eq_ix2 (n0 := A) (n1 := B) k⟩
  have h := (lands_block d hw hsd hivd idx a b ha hb r c u' v').1 hk
  rw [show u' = u from Fin.ext (by omega), show v' = v from Fin.ext (by omega)]

include hw hsd hivd ha hb in
theorem block_miss (h : ∀ (u : Fin A) (v : Fin B), ¬ (a + u.val = r.val ∧ b + v.val = c.val)) :
    Host.scatter d (fun _ b => b) x idx upd (ix2 r c) = x (ix2 r c) := by
  refine Routing.scatter_set_miss d x idx upd _ fun k hk => ?_
  obtain ⟨u, v, rfl⟩ : ∃ (u : Fin A) (v : Fin B), k = ix2 u v := ⟨k 0, k 1, eq_ix2 (n0 := A) (n1 := B) k⟩
  exact h u v ((lands_block d hw hsd hivd idx a b ha hb r c u v).1 hk)

end Block

/-- A head's block of the weights written into the matrix of weights. -/
def putW (wg : FVec Ideal S16x768 .f32) (h : Fin 12) (x : FVec Ideal S768x192 .f32) : FVec Ideal S768x192 .f32 :=
  Host.scatter scatter_S768x192_S2_S64x16_01_n_01_0 (fun _ b => b) x (corner (BitVec.ofNat 32 (64 * h.val)) (BitVec.ofNat 32 (16 * h.val)))
    (transpose S64x16 [1, 0] (extractStridedSlice S16x64 ![0, 64 * h.val] wg
      (by revert h; decide)) transposes_S16x64_S64x16_1_0)

/-- The positions written into a head's block of the matrix of positions. -/
def putP (xt : FVec Ideal S16x2048 .bf16) (h : Fin 12) (x : FVec Ideal S192x24576 .bf16) : FVec Ideal S192x24576 .bf16 :=
  Host.scatter scatter_S192x24576_S2_S16x2048_01_n_01_0 (fun _ b => b) x
    (corner (BitVec.ofNat 32 (16 * h.val)) (BitVec.ofNat 32 (2048 * h.val))) xt

theorem word_int (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

theorem putW_apply (wg : FVec Ideal S16x768 .f32) (h : Fin 12) (x : FVec Ideal S768x192 .f32) (d : Fin 768) (h' : Fin 12) (p : Fin 16) :
    putW wg h x (ix2 d (geoCol h' p)) = if h' = h ∧ d.val / 64 = h.val then wg (ix2 p d) else x (ix2 d (geoCol h' p)) := by
  have ha := (congrArg BitVec.toInt (corner_apply (BitVec.ofNat 32 (64 * h.val)) (BitVec.ofNat 32 (16 * h.val))).1).trans (word_int _ (by omega))
  have hb := (congrArg BitVec.toInt (corner_apply (BitVec.ofNat 32 (64 * h.val)) (BitVec.ofNat 32 (16 * h.val))).2).trans (word_int _ (by omega))
  unfold putW
  by_cases hh : h' = h ∧ d.val / 64 = h.val
  · obtain ⟨rfl, hd⟩ := hh
    rw [if_pos ⟨rfl, hd⟩, block_hit scatter_S768x192_S2_S64x16_01_n_01_0 (fun _ _ => ⟨rfl, rfl⟩) rfl rfl _ _ _ _ _ ha hb d (geoCol h' p)
      (⟨d.val % 64, by omega⟩ : Fin 64) p (by simp only; omega) rfl]
    pointwise
    exact congrArg (fun e => wg (ix2 p e)) (Fin.ext (by simp only; omega))
  · rw [if_neg hh, block_miss scatter_S768x192_S2_S64x16_01_n_01_0 (fun _ _ => ⟨rfl, rfl⟩) rfl rfl _ _ _ _ _ ha hb d (geoCol h' p)]
    rintro u v ⟨e1, e2⟩
    simp only [geoCol] at e2
    exact hh ⟨Fin.ext (by omega), by omega⟩

theorem putP_apply (xt : FVec Ideal S16x2048 .bf16) (h : Fin 12) (x : FVec Ideal S192x24576 .bf16) (h' h'' : Fin 12) (p : Fin 16) (j : Fin 2048) :
    putP xt h x (ix2 (geoCol h' p) (posCol h'' j)) = if h' = h ∧ h'' = h then xt (ix2 p j) else x (ix2 (geoCol h' p) (posCol h'' j)) := by
  have ha := (congrArg BitVec.toInt (corner_apply (BitVec.ofNat 32 (16 * h.val)) (BitVec.ofNat 32 (2048 * h.val))).1).trans (word_int _ (by omega))
  have hb := (congrArg BitVec.toInt (corner_apply (BitVec.ofNat 32 (16 * h.val)) (BitVec.ofNat 32 (2048 * h.val))).2).trans (word_int _ (by omega))
  unfold putP
  by_cases hh : h' = h ∧ h'' = h
  · obtain ⟨rfl, rfl⟩ := hh
    rw [if_pos ⟨rfl, rfl⟩, block_hit scatter_S192x24576_S2_S16x2048_01_n_01_0 (fun _ _ => ⟨rfl, rfl⟩) rfl rfl _ _ _ _ _ ha hb (geoCol h'' p)
      (posCol h'' j) p j rfl rfl]
  · rw [if_neg hh, block_miss scatter_S192x24576_S2_S16x2048_01_n_01_0 (fun _ _ => ⟨rfl, rfl⟩) rfl rfl _ _ _ _ _ ha hb (geoCol h' p) (posCol h'' j)]
    rintro u v ⟨e1, e2⟩
    simp only [geoCol, posCol] at e1 e2
    exact hh ⟨Fin.ext (by omega), Fin.ext (by omega)⟩

theorem heads_fold {α : Type} (g : α → Fin 12 → α) (x : α) : (List.finRange 12).foldl g x
    = g (g (g (g (g (g (g (g (g (g (g (g x 0) 1) 2) 3) 4) 5) 6) 7) 8) 9) 10) 11 := rfl

/-- All heads' blocks written, one after the other. -/
theorem putW_all (wg : FVec Ideal S16x768 .f32) (x : FVec Ideal S768x192 .f32) (hx : ∀ d m, x (ix2 d m) = (0 : EReal)) (d : Fin 768) (h : Fin 12) (p : Fin 16) :
    (List.finRange 12).foldl (fun x h => putW wg h x) x (ix2 d (geoCol h p)) = if d.val / 64 = h.val then wg (ix2 p d) else (0 : EReal) := by
  have key : ∀ (L : List (Fin 12)) (x : FVec Ideal S768x192 .f32), L.foldl (fun x h => putW wg h x) x (ix2 d (geoCol h p))
      = if h ∈ L ∧ d.val / 64 = h.val then wg (ix2 p d) else x (ix2 d (geoCol h p)) := by
    intro L
    induction L with
    | nil => intro x; simp
    | cons a L ih =>
      intro x
      rw [List.foldl_cons, ih, putW_apply]
      by_cases hd : d.val / 64 = h.val
      · by_cases hL : h ∈ L
        · simp [hL, hd]
        · by_cases ha : h = a
          · subst ha; simp [hd]
          · simp [hL, ha]
      · have : ¬ (h = a ∧ d.val / 64 = a.val) := fun q => hd (by rw [q.1, q.2])
        simp [hd, this]
  rw [key, hx]
  simp [List.mem_finRange]

theorem putP_all (xt : FVec Ideal S16x2048 .bf16) (x : FVec Ideal S192x24576 .bf16) (hx : ∀ d m, x (ix2 d m) = (0 : EReal)) (h h' : Fin 12) (p : Fin 16)
    (j : Fin 2048) :
    (List.finRange 12).foldl (fun x h => putP xt h x) x (ix2 (geoCol h' p) (posCol h j)) = if h' = h then xt (ix2 p j) else (0 : EReal) := by
  have key : ∀ (L : List (Fin 12)) (x : FVec Ideal S192x24576 .bf16), L.foldl (fun x h => putP xt h x) x (ix2 (geoCol h' p) (posCol h j))
      = if h ∈ L ∧ h' = h then xt (ix2 p j) else x (ix2 (geoCol h' p) (posCol h j)) := by
    intro L
    induction L with
    | nil => intro x; simp
    | cons a L ih =>
      intro x
      rw [List.foldl_cons, ih, putP_apply]
      by_cases hd : h' = h
      · subst hd
        by_cases hL : h' ∈ L
        · simp [hL]
        · by_cases ha : h' = a
          · subst ha; simp
          · simp [hL, ha]
      · have : ¬ (h' = a ∧ h = a) := fun q => hd (by rw [q.1, q.2])
        simp [hd, this]
  rw [key, hx]
  simp [List.mem_finRange]

end Cert.KernelIdeal.Att

end
-- ==== Proof.HostK.lean ====
/- The host's operations between the calls, read at the calls' operands. -/
module

public import proofs.«01_k».proof.Proof.Scat
public import Idealize.ShloMosaic.Lib.StableHlo.RunRead

@[expose] public section

set_option maxRecDepth 16384

noncomputable section

namespace Cert.KernelIdeal.Att

open Idealize.ShloMosaic Idealize.ShloMosaic.TcCoe Idealize.ShloMosaic.Tactic Cert.KernelIdeal Cert.KernelIdeal.Gen

variable (Y : Valuation τ sig (Elt Ideal))

/-- What the first call reads, from the arguments. -/
theorem host0 : StableHlo.after hostOps0 Y (Proc.devRef .tc main_v0) = shapeCast S1x1 (Y (Proc.devRef .tc main_arg2)) shapeCasts_S_S1x1
    ∧ StableHlo.after hostOps0 Y (Proc.devRef .tc main_v5) = shapeCast S1x768 (Y (Proc.devRef .tc main_arg17)) shapeCasts_S768_S1x768
    ∧ StableHlo.after hostOps0 Y (Proc.devRef .tc main_v6) = shapeCast S1x768 (Y (Proc.devRef .tc main_arg18)) shapeCasts_S768_S1x768 := by
  refine ⟨?_, ?_, ?_⟩ <;> (unfold_abbrev_sides; after_reads_simp <;> rfl)

/-- Three matrices beside each other, and three vectors. -/
def cat2 (a b c : FVec Ideal S768x768 .f32) : FVec Ideal S768x2304 .f32 :=
  concatenate S768x2304 1 [⟨S768x768, a⟩, ⟨S768x768, b⟩, ⟨S768x768, c⟩] concatenates_S768x768_S768x768_S768x768_S768x2304_d1
def cat1 (a b c : FVec Ideal S768 .f32) : FVec Ideal S2304 .f32 :=
  concatenate S2304 0 [⟨S768, a⟩, ⟨S768, b⟩, ⟨S768, c⟩] concatenates_S768_S768_S768_S2304_d0

theorem host0_cat : StableHlo.after hostOps0 Y (Proc.devRef .tc main_v2) = truncf .bf16 (cat2 (Y (Proc.devRef .tc main_arg3))
      (Y (Proc.devRef .tc main_arg5)) (Y (Proc.devRef .tc main_arg7))) bitsLt_bf16_f32
    ∧ StableHlo.after hostOps0 Y (Proc.devRef .tc main_v4) = broadcastInDim S1x2304 ![1] bcast_S2304_S1x2304_1 (cat1 (Y (Proc.devRef .tc main_arg4))
      (Y (Proc.devRef .tc main_arg6)) (Y (Proc.devRef .tc main_arg8))) := by
  refine ⟨?_, ?_⟩ <;> (unfold_abbrev_sides; after_reads_simp <;> rfl)

theorem cat2_apply (a b c : FVec Ideal S768x768 .f32) (k l : Fin 768) :
    cat2 a b c (ix2 k (third 0 l)) = a (ix2 k l) ∧ cat2 a b c (ix2 k (third 1 l)) = b (ix2 k l) ∧ cat2 a b c (ix2 k (third 2 l)) = c (ix2 k l) := by
  refine ⟨?_, ?_, ?_⟩ <;> (unfold third; pointwise [cat2])
  rw [dif_neg (by omega), dif_neg (by omega)]
  exact congrArg (fun e => c (ix2 k e)) (Fin.ext (by simp only; omega))

theorem cat1_apply (a b c : FVec Ideal S768 .f32) (l : Fin 768) :
    cat1 a b c (ix1 (third 0 l)) = a (ix1 l) ∧ cat1 a b c (ix1 (third 1 l)) = b (ix1 l) ∧ cat1 a b c (ix1 (third 2 l)) = c (ix1 l) := by
  refine ⟨?_, ?_, ?_⟩ <;> (unfold third; pointwise [cat1])
  rw [dif_neg (by omega), dif_neg (by omega)]
  exact congrArg (fun e => c (ix1 e)) (Fin.ext (by simp only; omega))

/-- What the middle call reads beside the first call's results. -/
theorem host1 : StableHlo.after hostOps1 Y (Proc.devRef .tc main_v134) = broadcastInDim S1x192 ![1] bcast_S192_S1x192_1
      (shapeCast S192 (broadcastInDim S12x16 ![0] bcast_S12_S12x16_0 (Y (Proc.devRef .tc main_arg21))) shapeCasts_S12x16_S192)
    ∧ StableHlo.after hostOps1 Y (Proc.devRef .tc main_v136) = shapeCast S1x12 (Y (Proc.devRef .tc main_arg22)) shapeCasts_S12_S1x12 := by
  refine ⟨?_, ?_⟩ <;> (unfold_abbrev_sides; after_reads_simp <;> rfl)

set_option maxHeartbeats 2000000 in
theorem host1_w : StableHlo.after hostOps1 Y (Proc.devRef .tc main_v135)
    = truncf .bf16 ((List.finRange 12).foldl (fun x h => putW (Y (Proc.devRef .tc main_arg9)) h x)
        (broadcastInDim S768x192 ![] bcast_S_S768x192 (constant S_ .f32 0x00000000#32))) bitsLt_bf16_f32 := by
  rw [heads_fold]
  unfold_abbrev_sides
  after_reads_simp [fold_pair]
  rfl

set_option maxHeartbeats 2000000 in
theorem host1_p : StableHlo.after hostOps1 Y (Proc.devRef .tc main_v131)
    = (List.finRange 12).foldl (fun x h => putP (truncf .bf16 (transpose S16x2048 [1, 0] (Y (Proc.devRef .tc main_arg1))
        transposes_S2048x16_S16x2048_1_0) bitsLt_bf16_f32) h x)
        (broadcastInDim S192x24576 ![] bcast_S_S192x24576 (constant S_ .bf16 0x0000#16)) := by
  rw [heads_fold]
  unfold_abbrev_sides
  after_reads_simp [fold_pair]
  rfl

/-- What the last call reads beside the middle call's result. -/
theorem host2 : StableHlo.after hostOps2 Y (Proc.devRef .tc main_v138) = (truncf .bf16 (Y (Proc.devRef .tc main_arg11) : FVec Ideal S768x768 .f32) bitsLt_bf16_f32 : FVec Ideal S768x768 .bf16)
    ∧ StableHlo.after hostOps2 Y (Proc.devRef .tc main_v139) = shapeCast S1x768 (Y (Proc.devRef .tc main_arg12)) shapeCasts_S768_S1x768
    ∧ StableHlo.after hostOps2 Y (Proc.devRef .tc main_v140) = shapeCast S1x768 (Y (Proc.devRef .tc main_arg19)) shapeCasts_S768_S1x768
    ∧ StableHlo.after hostOps2 Y (Proc.devRef .tc main_v141) = shapeCast S1x768 (Y (Proc.devRef .tc main_arg20)) shapeCasts_S768_S1x768
    ∧ StableHlo.after hostOps2 Y (Proc.devRef .tc main_v142) = (truncf .bf16 (Y (Proc.devRef .tc main_arg13) : FVec Ideal S768x3072 .f32) bitsLt_bf16_f32 : FVec Ideal S768x3072 .bf16)
    ∧ StableHlo.after hostOps2 Y (Proc.devRef .tc main_v143) = shapeCast S1x3072 (Y (Proc.devRef .tc main_arg14)) shapeCasts_S3072_S1x3072
    ∧ StableHlo.after hostOps2 Y (Proc.devRef .tc main_v144) = (truncf .bf16 (Y (Proc.devRef .tc main_arg15) : FVec Ideal S3072x768 .f32) bitsLt_bf16_f32 : FVec Ideal S3072x768 .bf16)
    ∧ StableHlo.after hostOps2 Y (Proc.devRef .tc main_v145) = shapeCast S1x768 (Y (Proc.devRef .tc main_arg16)) shapeCasts_S768_S1x768 := by
  refine ⟨?_, ?_, ?_, ?_, ?_, ?_, ?_, ?_⟩ <;> (unfold_abbrev_sides; after_reads_simp <;> rfl)

end Cert.KernelIdeal.Att

end
-- ==== Proof.Run.lean ====
/- The run of the idealized kernel, with its result: what the launch leaves in the result buffer is the last boundary's
   contents, and the argument arrays are as launched. -/
module

public import proofs.«01_k».proof.Proof.Gen.KernelIdeal.Frame

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run from `m` ends with each of the TensorCore's unscoped buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The result buffer at the end of a run is the last boundary's contents of it. -/
theorem run_result : θ_run defs (onTc (τ := τ) (main (F := F))) ⟨m, fun _ => 0, ρ⟩ (fun r => ∀ c : Dev nD,
      r.2.mem ((c.tc : Thread nD τ).loc main_v146) = W6 m ρ c (Proc.devRef .tc main_v146)) :=
  (θ_run defs _ _).mono (fun _ h c => h c _ (mem_uc main_v146 (by decide))) (run_all m ρ)

end Cert.KernelIdeal.Att

end
-- ==== Proof.KRes.lean ====
/- The idealized kernel's result, from the launch's memory. -/
module

public import proofs.«01_k».proof.Proof.ArrAtt
public import proofs.«01_k».proof.Proof.HostK
public import proofs.«01_k».proof.Proof.Run

@[expose] public section

set_option maxRecDepth 16384

noncomputable section

namespace Cert.KernelIdeal.Att

open Idealize.ShloMosaic Idealize.ShloMosaic.TcCoe Idealize.ShloMosaic.Tactic Cert.KernelIdeal Cert.KernelIdeal.Gen

variable (m : (ℓ : Loc nD τ sig) → Buf (Elt Ideal) ℓ) (ρ : Dev nD → PrngReg) (c : Dev nD)

/-- The joint rows' thirds, from the arguments. -/
theorem joint (i : Fin 2048) (l : Fin 768) :
    (qkvRow (V1 m ρ) c i (third 0 l) = denseRow (lnRow (fun k => (m (c.tc.loc main_arg0) : FVec Ideal S2048x768 .f32) (ix2 i k)) (fun k => (m (c.tc.loc main_arg17) : FVec Ideal S768 .f32) (ix1 k))
        fun k => (m (c.tc.loc main_arg18) : FVec Ideal S768 .f32) (ix1 k)) (fun k l => (m (c.tc.loc main_arg3) : FVec Ideal S768x768 .f32) (ix2 k l)) (fun l => (m (c.tc.loc main_arg4) : FVec Ideal S768 .f32) (ix1 l)) l)
    ∧ (qkvRow (V1 m ρ) c i (third 1 l) = denseRow (lnRow (fun k => (m (c.tc.loc main_arg0) : FVec Ideal S2048x768 .f32) (ix2 i k)) (fun k => (m (c.tc.loc main_arg17) : FVec Ideal S768 .f32) (ix1 k))
        fun k => (m (c.tc.loc main_arg18) : FVec Ideal S768 .f32) (ix1 k)) (fun k l => (m (c.tc.loc main_arg5) : FVec Ideal S768x768 .f32) (ix2 k l)) (fun l => (m (c.tc.loc main_arg6) : FVec Ideal S768 .f32) (ix1 l)) l)
    ∧ (qkvRow (V1 m ρ) c i (third 2 l) = denseRow (lnRow (fun k => (m (c.tc.loc main_arg0) : FVec Ideal S2048x768 .f32) (ix2 i k)) (fun k => (m (c.tc.loc main_arg17) : FVec Ideal S768 .f32) (ix1 k))
        fun k => (m (c.tc.loc main_arg18) : FVec Ideal S768 .f32) (ix1 k)) (fun k l => (m (c.tc.loc main_arg7) : FVec Ideal S768x768 .f32) (ix2 k l)) (fun l => (m (c.tc.loc main_arg8) : FVec Ideal S768 .f32) (ix1 l)) l) := by
  have e0 : V1 m ρ c main_arg0 = m (c.tc.loc main_arg0) := W1_args m ρ c _ (by decide)
  obtain ⟨-, e5, e6⟩ := host0 (W0 m ρ c)
  obtain ⟨e2, e4⟩ := host0_cat (W0 m ρ c)
  unfold qkvRow
  rw [e0, show V1 m ρ c main_v5 = _ from e5, show V1 m ρ c main_v6 = _ from e6, show V1 m ρ c main_v2 = _ from e2, show V1 m ρ c main_v4 = _ from e4]
  unfold denseRow
  have h2 := cat2_apply (W0 m ρ c (Proc.devRef .tc main_arg3)) (W0 m ρ c (Proc.devRef .tc main_arg5)) (W0 m ρ c (Proc.devRef .tc main_arg7))
  have h1 := cat1_apply (W0 m ρ c (Proc.devRef .tc main_arg4)) (W0 m ρ c (Proc.devRef .tc main_arg6)) (W0 m ρ c (Proc.devRef .tc main_arg8))
  generalize cat2 _ _ _ = w2 at *
  generalize cat1 _ _ _ = w1 at *
  pointwise
  simp only [h2, h1]
  exact ⟨trivial, trivial, trivial⟩

/-- The values' rows, from the arguments. -/
def valRow (j : Fin 2048) (l : Fin 768) : EReal :=
  denseRow (lnRow (fun k => (m (c.tc.loc main_arg0) : FVec Ideal S2048x768 .f32) (ix2 j k)) (fun k => (m (c.tc.loc main_arg17) : FVec Ideal S768 .f32) (ix1 k))
    fun k => (m (c.tc.loc main_arg18) : FVec Ideal S768 .f32) (ix1 k)) (fun k l => (m (c.tc.loc main_arg7) : FVec Ideal S768x768 .f32) (ix2 k l))
    (fun l => (m (c.tc.loc main_arg8) : FVec Ideal S768 .f32) (ix1 l)) l

variable {κ : ℝ} {X : Fin 2048 → Fin 16 → ℝ} {Q K : Fin 2048 → Fin 768 → ℝ} {Wg : Fin 16 → Fin 768 → ℝ} {bg : Fin 768 → ℝ} {al f : Fin 12 → ℝ}
  (H : Ins (m (c.tc.loc main_arg0)) (m (c.tc.loc main_arg1)) (m (c.tc.loc main_arg2)) (m (c.tc.loc main_arg3)) (m (c.tc.loc main_arg5))
    (m (c.tc.loc main_arg4)) (m (c.tc.loc main_arg6)) (m (c.tc.loc main_arg9)) (m (c.tc.loc main_arg10)) (m (c.tc.loc main_arg17))
    (m (c.tc.loc main_arg18)) (m (c.tc.loc main_arg21)) (m (c.tc.loc main_arg22)) κ X Q K Wg bg al f)

include H in
/-- What the middle call's operands hold. -/
theorem feeds : Feeds (V3 m ρ) c κ X Q K Wg al f (valRow m c) := by
  have arr (w : Fin cfg0.W) (h : Pipeline.arrRef spec0 w ∉ hostOps1_W) : V3 m ρ c (Pipeline.arrRef spec0 w) = (dat0 (V1 m ρ) c).arrAt w cfg0.N :=
    (W3_of m ρ c _ h).trans (W2_arr m ρ c w)
  obtain ⟨a5, a6, a7⟩ := arr_qkv (V1 m ρ) c
  have e5 : V3 m ρ c main_v7_0 = _ := (arr 5 (by decide)).trans a5
  have e6 : V3 m ρ c main_v7_1 = _ := (arr 6 (by decide)).trans a6
  have e7 : V3 m ρ c main_v7_2 = _ := (arr 7 (by decide)).trans a7
  obtain ⟨h134, h136⟩ := host1 (W2 m ρ c)
  have h135 := host1_w (W2 m ρ c)
  have h131 := host1_p (W2 m ρ c)
  have e0 : V3 m ρ c main_v0 = shapeCast S1x1 (m (c.tc.loc main_arg2)) shapeCasts_S_S1x1 :=
    ((W3_of m ρ c main_v0 (by decide)).trans (W2_of_ne m ρ c main_v0 (by decide))).trans (host0 (W0 m ρ c)).1
  rw [W2_args m ρ c main_arg21 (by decide)] at h134
  rw [W2_args m ρ c main_arg22 (by decide)] at h136
  rw [W2_args m ρ c main_arg9 (by decide)] at h135
  rw [W2_args m ρ c main_arg1 (by decide)] at h131
  refine ⟨fun i l => ?_, fun j p => ?_, fun j l => ?_, fun j l => ?_, fun d h p => ?_, fun h h' p j => ?_, fun h p => ?_, ?_, fun h => ?_⟩
  · rw [e5]; exact ((joint m ρ c i l).1).trans (H.q i l)
  · rw [show V3 m ρ c main_arg1 = _ from W3_args m ρ c main_arg1 (by decide)]; exact H.pos j p
  · rw [e6]; exact ((joint m ρ c j l).2.1).trans (H.k j l)
  · rw [e7]; exact (joint m ρ c j l).2.2
  · rw [show V3 m ρ c main_v135 = _ from h135]
    have hw := putW_all (m (c.tc.loc main_arg9)) (broadcastInDim S768x192 ![] bcast_S_S768x192 (constant S_ .f32 0x00000000#32))
      (fun d m => by pointwise) d h p
    simp only [← H.wg]
    generalize List.foldl _ _ _ = y at *
    refine Eq.trans ?_ hw
    pointwise
  · rw [show V3 m ρ c main_v131 = _ from h131]
    refine (putP_all _ (broadcastInDim S192x24576 ![] bcast_S_S192x24576 (constant S_ .bf16 0x0000#16)) (fun d m => by pointwise) h h' p j).trans ?_
    rw [← H.pos]
    pointwise
  · rw [show V3 m ρ c main_v134 = _ from h134, ← H.al]
    unfold geoCol
    pointwise
  · rw [e0, ← H.curv]
    pointwise
  · rw [show V3 m ρ c main_v136 = _ from h136, ← H.fs]
    pointwise

include H in
/-- The idealized kernel's result: each row's residual behind the attention, and its dense layers. -/
theorem kernel_result (hk : ∀ i j, key κ X i j < 14791142 * 2 ^ 103) : W6 m ρ c (Proc.devRef .tc main_v146) = fun i : S2048x768.Idx =>
    ffnRow (resRow (fun k => (m (c.tc.loc main_arg0) : FVec Ideal S2048x768 .f32) (ix2 (i 0) k))
        (fun k => attend κ X Q K Wg al f (valRow m c) (i 0) (headOf k) (withinOf k))
        (fun k l => (m (c.tc.loc main_arg11) : FVec Ideal S768x768 .f32) (ix2 k l)) (fun l => (m (c.tc.loc main_arg12) : FVec Ideal S768 .f32) (ix1 l)))
      (fun k => (m (c.tc.loc main_arg19) : FVec Ideal S768 .f32) (ix1 k)) (fun k => (m (c.tc.loc main_arg20) : FVec Ideal S768 .f32) (ix1 k))
      (fun k u => (m (c.tc.loc main_arg13) : FVec Ideal S768x3072 .f32) (ix2 k u)) (fun u => (m (c.tc.loc main_arg14) : FVec Ideal S3072 .f32) (ix1 u))
      (fun u l => (m (c.tc.loc main_arg15) : FVec Ideal S3072x768 .f32) (ix2 u l)) (fun l => (m (c.tc.loc main_arg16) : FVec Ideal S768 .f32) (ix1 l)) (i 1) := by
  have e := (W6_arr m ρ c 10).trans (arr_ffn (V5 m ρ) c)
  refine e.trans ?_
  have a137 : V5 m ρ c main_v137 = _ :=
    ((W5_of m ρ c main_v137 (by decide)).trans (W4_arr m ρ c 9)).trans (arr_att (feeds m ρ c H) hk)
  have a0 : V5 m ρ c main_arg0 = _ := W5_args m ρ c main_arg0 (by decide)
  obtain ⟨e1, e2, e3, e4, e5, e6, e7, e8⟩ := host2 (W4 m ρ c)
  rw [W4_args m ρ c _ (by decide)] at e1 e2 e3 e4 e5 e6 e7 e8
  funext i
  rw [a137, a0, show V5 m ρ c main_v138 = _ from e1, show V5 m ρ c main_v139 = _ from e2, show V5 m ρ c main_v140 = _ from e3,
    show V5 m ρ c main_v141 = _ from e4, show V5 m ρ c main_v142 = _ from e5, show V5 m ρ c main_v143 = _ from e6,
    show V5 m ρ c main_v144 = _ from e7, show V5 m ρ c main_v145 = _ from e8]
  pointwise

end Cert.KernelIdeal.Att

end
-- ==== Proof.RDist.lean ====
/- The reference's distances over real contents: from the Moebius sum to the distance, whose order is the keys' order. -/
module

public import proofs.«01_k».proof.Proof.Geo
public import proofs.«01_k».proof.Proof.Rows

@[expose] public section

set_option maxRecDepth 16384

noncomputable section

namespace Cert.KernelIdeal.Att

open Idealize.ShloMosaic Cert.ReferenceIdeal Cert.ReferenceIdeal.Gen Cert.ReferenceIdeal.Read

/-- The projection's factor at length `d`. -/
def fac (c d : ℝ) : ℝ := min (eta / rc c / max d eps) 1

/-- What the inverse hyperbolic tangent of a distance is taken of, at length `d`. -/
def inner (c d : ℝ) : ℝ := min (rc c * min eta (max eps (d * fac c d))) eta

/-- The distance at length `d`. -/
def far (c d : ℝ) : ℝ := 2 * Real.artanh (inner c d) / rc c

theorem fac_nonneg (c d : ℝ) : 0 ≤ fac c d :=
  le_min (div_nonneg (div_nonneg eta_pos.le (rc_pos c).le) (lt_max_of_lt_right eps_pos).le) zero_le_one

theorem inner_pos (c d : ℝ) : 0 < inner c d :=
  lt_min (mul_pos (rc_pos c) (lt_min eta_pos (lt_max_of_lt_left eps_pos))) eta_pos

theorem inner_lt (c d : ℝ) : inner c d < 1 := (min_le_right _ _).trans_lt eta_lt

theorem real_atanh (a : ℝ) (h : -1 < a) (h' : a < 1) : Ideal.atanh (a : EReal) = (Real.artanh a : EReal) := by
  rw [Ideal.atanh_coe, if_neg h'.ne, if_neg h.ne', if_pos ⟨h, h'⟩]

theorem real_div_far (a b : ℝ) (h : b ≠ 0) : Ideal.div (a : EReal) (b : EReal) = ((a / b : ℝ) : EReal) := div_real a b h

/-- The length of a scaled vector. -/
theorem root_scaled {n : ℕ} (v : Fin n → ℝ) (a : ℝ) (h : 0 ≤ a) : √(∑ p, v p * a * (v p * a)) = √(∑ p, v p * v p) * a := by
  rw [show (∑ p, v p * a * (v p * a)) = (∑ p, v p * v p) * (a * a) by
    rw [Finset.sum_mul]; exact Finset.sum_congr rfl fun p _ => by ring]
  rw [Real.sqrt_mul (Finset.sum_nonneg fun p _ => mul_self_nonneg _), Real.sqrt_mul_self h]

/-- The key is the squared length of the Moebius sum. -/
theorem key_eq (c : ℝ) (X : Fin 2048 → Fin 16 → ℝ) (i j : Fin 2048) :
    (∑ p, (ca c X j i * X j p + cb c X j * -X i p) / den c X j i * ((ca c X j i * X j p + cb c X j * -X i p) / den c X j i)) = key c X i j := by
  unfold key
  rw [num2_eq, Finset.sum_div]
  exact Finset.sum_congr rfl fun p _ => by ring

theorem key_nonneg (c : ℝ) (X : Fin 2048 → Fin 16 → ℝ) (i j : Fin 2048) : 0 ≤ key c X i j :=
  div_nonneg (num2_nonneg _ _ _ _) (mul_self_nonneg _)

variable (x1 : FVec Ideal S2048x16 .f32) (x2 : FVec Ideal S_ .f32) (c : ℝ) (X : Fin 2048 → Fin 16 → ℝ)
  (hX : ∀ j p, x1 (ix2 j p) = (X j p : EReal)) (hc : x2 ix0 = (c : EReal)) (i j : Fin 2048)

theorem cell_eps : constant (F := Ideal) S_ .f32 0x33D6BF95#32 ix0 = (eps : EReal) := word_eps
theorem cell_eta : constant (F := Ideal) S_ .f32 0x3F7FFFFE#32 ix0 = (eta : EReal) := word_eta

include hc in
theorem ref_rc : val_main_v33 (F := Ideal) x2 ix0 = (rc c : EReal) := by
  rw [← real_rc, ← hc, max_comm]
  pointwise [val_main_v33, val_main_v32, val_main_call1_v0, val_main_cst_2]
  simp only [id_eq, cell_eps]

include hX in
theorem ref_si : val_main_v40 (F := Ideal) x1 (ix3 i 0 0) = (sq X i : EReal) := by
  pointwise [val_main_v40, val_main_v39, val_main_v38, val_main_v34, val_main_v31, val_main_cst_4]
  simp only [hX, ← EReal.coe_neg, ← EReal.coe_mul, coe_sum, neg_mul_neg]
  rfl

include hX in
theorem ref_sj : val_main_v37 (F := Ideal) x1 (ix3 0 j 0) = (sq X j : EReal) := by
  pointwise [val_main_v37, val_main_v36, val_main_v35, val_main_v30, val_main_cst_3]
  simp only [hX, ← EReal.coe_mul, coe_sum]
  rfl

include hX in
theorem ref_g : val_main_v45 (F := Ideal) x1 (ix3 i j 0) = ((-ip X j i : ℝ) : EReal) := by
  pointwise [val_main_v45, val_main_v44, val_main_v43, val_main_v42, val_main_v41, val_main_v34, val_main_v31, val_main_v30, val_main_cst_5]
  simp only [hX, ← EReal.coe_neg, ← EReal.coe_mul, coe_sum, mul_neg, Finset.sum_neg_distrib]
  rfl

include hX hc in
theorem ref_num (p : Fin 16) : val_main_v65 (F := Ideal) x1 x2 (ix3 i j p) = ((ca c X j i * X j p + cb c X j * -X i p : ℝ) : EReal) := by
  have h1 := ref_si x1 X hX i
  have h2 := ref_sj x1 X hX j
  have h3 := ref_g x1 X hX i j
  unfold val_main_v65 val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47
  generalize val_main_v37 (F := Ideal) x1 = y1 at *
  generalize val_main_v40 (F := Ideal) x1 = y2 at *
  generalize val_main_v45 (F := Ideal) x1 = y3 at *
  pointwise [val_main_v46, val_main_v34, val_main_v31, val_main_v30, val_main_cst_6, val_main_cst_7, val_main_cst_8]
  simp only [h1, h2, h3, hX, hc, word_two, real_one, ← EReal.coe_neg, ← EReal.coe_mul, ← EReal.coe_sub, ← EReal.coe_add]
  unfold ca cb
  congr 1
  ring

include hX hc in
theorem ref_den : val_main_v78 (F := Ideal) x1 x2 (ix3 i j 0) = (den c X j i : EReal) := by
  have h1 := ref_si x1 X hX i
  have h2 := ref_sj x1 X hX j
  have h3 := ref_g x1 X hX i j
  unfold val_main_v78 val_main_v77 val_main_v76 val_main_v75 val_main_v74 val_main_v73 val_main_v72 val_main_v71 val_main_v70
    val_main_v69 val_main_v68 val_main_v67
  generalize val_main_v37 (F := Ideal) x1 = y1 at *
  generalize val_main_v40 (F := Ideal) x1 = y2 at *
  generalize val_main_v45 (F := Ideal) x1 = y3 at *
  pointwise [val_main_v66, val_main_cst_9, val_main_cst_10, val_main_cst_11, val_main_call2_v1, val_main_call2_v0]
  simp only [h1, h2, h3, hX, hc, word_two, id_eq, cell_eps, real_one, ← EReal.coe_neg, ← EReal.coe_mul, ← EReal.coe_sub, ← EReal.coe_add, real_max]
  unfold den
  rw [max_comm]
  congr 2
  ring

include hX hc in
theorem ref_len : val_main_v81 (F := Ideal) x1 x2 (ix3 i j 0) = ((√(key c X i j) : ℝ) : EReal) := by
  have h1 := ref_num x1 x2 c X hX hc i j
  have h2 := ref_den x1 x2 c X hX hc i j
  unfold val_main_v81 val_main_call3_v2 val_main_call3_v1 val_main_call3_v0 val_main_v80 val_main_v79
  generalize val_main_v65 (F := Ideal) x1 x2 = y1 at *
  generalize val_main_v78 (F := Ideal) x1 x2 = y2 at *
  pointwise [val_main_call3_cst]
  simp only [h1, h2, div_real _ _ (den_pos c X j i).ne', ← EReal.coe_mul, coe_sum, key_eq]
  exact real_root _ (key_nonneg _ _ _ _)

include hX hc in
theorem ref_fac : val_main_v89 (F := Ideal) x1 x2 (ix3 i j 0) = (fac c (√(key c X i j)) : EReal) := by
  have h1 := ref_len x1 x2 c X hX hc i j
  have h2 := ref_rc x2 c hc
  unfold val_main_v89 val_main_v88 val_main_v87 val_main_v86 val_main_v85 val_main_v82
  rw [show val_main_v84 (F := Ideal) x2 = val_main_v33 x2 from rfl]
  generalize val_main_v81 (F := Ideal) x1 x2 = y1 at *
  generalize val_main_v33 (F := Ideal) x2 = y2 at *
  pointwise [val_main_call4_v1, val_main_call4_v0, val_main_cst_12, val_main_cst_14, val_main_cst_15]
  simp only [h1, h2, id_eq, cell_eps, word_eta, real_one, max_comm (eps : EReal), real_max, div_real _ _ (rc_pos c).ne', div_real _ _ (max_eps_ne _), real_min]
  rfl

include hX hc in
theorem ref_short : val_main_v92 (F := Ideal) x1 x2 (ix2 i j) = ((√(key c X i j) * fac c (√(key c X i j)) : ℝ) : EReal) := by
  have h1 := ref_num x1 x2 c X hX hc i j
  have h2 := ref_den x1 x2 c X hX hc i j
  have h3 := ref_fac x1 x2 c X hX hc i j
  unfold val_main_v92 val_main_call6_v1 val_main_call6_v0 val_main_v91 val_main_v90 val_main_v80 val_main_v79
  generalize val_main_v65 (F := Ideal) x1 x2 = y1 at *
  generalize val_main_v78 (F := Ideal) x1 x2 = y2 at *
  generalize val_main_v89 (F := Ideal) x1 x2 = y3 at *
  pointwise [val_main_call6_cst]
  simp only [h1, h2, h3, div_real _ _ (den_pos c X j i).ne', ← EReal.coe_mul, coe_sum]
  rw [real_root _ (Finset.sum_nonneg fun p _ => mul_self_nonneg _), root_scaled _ _ (fac_nonneg _ _), key_eq]

include hX hc in
theorem ref_far : val_main_v103 (F := Ideal) x1 x2 (ix2 i j) = ((-far c (√(key c X i j)) : ℝ) : EReal) := by
  have h1 := ref_short x1 x2 c X hX hc i j
  have h2 := ref_rc x2 c hc
  unfold val_main_v103 val_main_v102 val_main_v101 val_main_v100 val_main_v99 val_main_v98 val_main_v97 val_main_v96 val_main_v95 val_main_v94
    val_main_v93 val_main_call7_v4 val_main_call7_v2
  generalize val_main_v92 (F := Ideal) x1 x2 = y1 at *
  generalize val_main_v33 (F := Ideal) x2 = y2 at *
  pointwise [val_main_call7_v3, val_main_call7_v1, val_main_call7_v0, val_main_cst_16, val_main_cst_17, val_main_cst_18, val_main_cst_19]
  simp only [h1, h2, id_eq, cell_eps, cell_eta, word_eta, word_two, real_max, real_min, ← EReal.coe_mul]
  rw [show min (rc c * min eta (max eps (√(key c X i j) * fac c √(key c X i j)))) eta = inner c √(key c X i j) from rfl]
  rw [real_atanh _ (by linarith [inner_pos c √(key c X i j)]) (inner_lt _ _), ← EReal.coe_mul, div_real _ _ (rc_pos c).ne', ← EReal.coe_neg]
  rfl

/-- A length that the distance tells from the others. -/
def Told (c d : ℝ) : Prop := d = 0 ∨ (eps < d ∧ d ≤ eta ∧ rc c * d ≤ eta)

theorem inner_told (c d : ℝ) (h : eps < d ∧ d ≤ eta ∧ rc c * d ≤ eta) : inner c d = rc c * d := by
  obtain ⟨h1, h2, h3⟩ := h
  have hf : fac c d = 1 := by
    unfold fac
    rw [max_eq_left h1.le, min_eq_right]
    rw [div_div, le_div_iff₀ (mul_pos (rc_pos c) (eps_pos.trans h1)), one_mul]
    exact h3
  unfold inner
  rw [hf, mul_one, max_eq_right h1.le, min_eq_right h2, min_eq_left h3]

theorem inner_zero (c : ℝ) : inner c 0 = min (rc c * eps) eta := by
  unfold inner
  rw [zero_mul, max_eq_left eps_pos.le, min_eq_right eps_lt_eta.le]

theorem inner_lt_iff (c d d' : ℝ) (h : Told c d) (h' : Told c d') : inner c d < inner c d' ↔ d < d' := by
  have r := rc_pos c
  have low : ∀ e, eps < e ∧ e ≤ eta ∧ rc c * e ≤ eta → inner c 0 < inner c e := fun e he => by
    rw [inner_zero, inner_told c e he]
    exact (min_le_left _ _).trans_lt (mul_lt_mul_of_pos_left he.1 r)
  rcases h with rfl | h <;> rcases h' with rfl | h'
  · simp
  · exact iff_of_true (low _ h') (eps_pos.trans h'.1)
  · exact iff_of_false (low _ h).not_gt (eps_pos.trans h.1).not_gt
  · rw [inner_told c d h, inner_told c d' h']
    exact mul_lt_mul_iff_right₀ r

theorem far_lt_iff (c d d' : ℝ) (h : Told c d) (h' : Told c d') : far c d < far c d' ↔ d < d' := by
  unfold far
  rw [div_lt_div_iff_of_pos_right (rc_pos c), mul_lt_mul_iff_right₀ two_pos, ← inner_lt_iff c d d' h h']
  have m : ∀ e, inner c e ∈ Set.Ioo (-1 : ℝ) 1 := fun e => ⟨by linarith [inner_pos c e], inner_lt c e⟩
  exact Real.strictMonoOn_artanh.lt_iff_lt (m d) (m d')

end Cert.KernelIdeal.Att

end
-- ==== Proof.RTop.lean ====
/- The reference's selection: the indices of its top positions are the selection of the sixteen least keys, and the gathers
   read the rows they name. -/
module

public import proofs.«01_k».proof.Proof.RDist
public import proofs.«01_k».proof.Proof.Scat
public import Idealize.ShloMosaic.Lib.SortFacts

@[expose] public section

set_option maxRecDepth 16384

noncomputable section

namespace Cert.KernelIdeal.Att

open Idealize.ShloMosaic Cert.ReferenceIdeal Cert.ReferenceIdeal.Gen Cert.ReferenceIdeal.Read

theorem along_row {n m : ℕ} (i : Fin n) (j k : Fin m) : Shape.Idx.along (s := ⟨2, ![n, m]⟩) (ix2 i j) (1 : Fin 2) k = ix2 i k := by
  funext a
  match a with
  | ⟨0, _⟩ => rfl
  | ⟨1, _⟩ => rfl

/-- The indices of a row's top entries are the first positions of its sort. -/
theorem top_row {α : Type} {n m k : ℕ} (gt : α → α → BitVec 1) (x : (⟨2, ![n, m]⟩ : Shape).Idx → α)
    (h : (⟨2, ![n, m]⟩ : Shape).Slices (fun _ => 0) ⟨2, ![n, k]⟩) (hk : k ≤ m) (i : Fin n) (j : Fin k) :
    (Host.topK ⟨2, ![n, k]⟩ 1 gt x h).2 (ix2 i j)
      = BitVec.ofNat 32 (sortedFrom (fun a b => gt (x (ix2 i a)) (x (ix2 i b)) == 1#1) (j.castLE hk)).val := by
  show extractStridedSlice ⟨2, ![n, k]⟩ (fun _ => 0) (Host.sort2 ⟨2, ![n, m]⟩ 1 (fun l r => gt l.1 r.1) x
    (fun i => if hd : 1 < 2 then iotaInDim ⟨2, ![n, m]⟩ 32 ⟨1, hd⟩ i else 0#32)).2 h (ix2 i j) = _
  refine (extractStridedSlice_apply (s := ⟨2, ![n, m]⟩) (t := ⟨2, ![n, k]⟩) _ _ _ (ix2 i j) (ix2 i (j.castLE hk)) ?_).trans ?_
  · intro a
    match a with
    | ⟨0, _⟩ => exact (Nat.zero_add _).symm
    | ⟨1, _⟩ => exact (Nat.zero_add _).symm
  · have e : (fun a b : Fin m => gt (x (Shape.Idx.along (s := ⟨2, ![n, m]⟩) (ix2 i (j.castLE hk)) (1 : Fin 2) a))
        (x (Shape.Idx.along (s := ⟨2, ![n, m]⟩) (ix2 i (j.castLE hk)) (1 : Fin 2) b)) == 1#1)
        = fun a b => gt (x (ix2 i a)) (x (ix2 i b)) == 1#1 :=
      funext fun a => funext fun b => congrArg₂ (fun p q => gt (x p) (x q) == 1#1) (along_row i (j.castLE hk) a) (along_row i (j.castLE hk) b)
    rw [← e]
    unfold Host.sort2
    rw [dif_pos (by decide : 1 < 2)]
    rfl

theorem gt_iff (a b : ℝ) : (FloatOps.cmpfTotal (F := Ideal) (φ := .f32) .gt (a : EReal) (b : EReal) == 1#1) = decide (b < a) := by
  have h : FloatOps.cmpfTotal (F := Ideal) (φ := .f32) .gt (a : EReal) (b : EReal) = BitVec.ofBool (decide ((b : EReal) < (a : EReal))) := rfl
  rw [h]
  simp only [EReal.coe_lt_coe_iff]
  by_cases hab : b < a <;> simp [hab]

/-- A row number is no negative word. -/
theorem wrapped (s : Fin 2048) : IntOp.cmpi .slt (BitVec.ofNat 32 s.val) 0#32 = 0#1 := by
  have h := word_int s.val (by omega)
  have hs : (BitVec.ofNat 32 s.val).slt 0#32 = false := by
    rw [BitVec.slt_eq_decide, h]
    exact decide_eq_false (by simp)
  show BitVec.ofBool _ = _
  rw [hs]
  rfl

variable (x1 : FVec Ideal S2048x16 .f32) (x2 : FVec Ideal S_ .f32) (c : ℝ) (X : Fin 2048 → Fin 16 → ℝ)
  (hX : ∀ j p, x1 (ix2 j p) = (X j p : EReal)) (hc : x2 ix0 = (c : EReal)) (hT : ∀ i j, Told c √(key c X i j))

include hX hc hT in
theorem ref_indices (i : Fin 2048) (k : Fin 16) : val_main_indices (F := Ideal) x1 x2 (ix2 i k) = BitVec.ofNat 32 (sel c X i k).val := by
  unfold val_main_indices sel
  refine (top_row (n := 2048) (m := 2048) (k := 16) _ _ _ (by decide) i k).trans ?_
  refine congrArg (fun π : Fin 2048 → Fin 2048 => BitVec.ofNat 32 (π (k.castLE (by decide : 16 ≤ 2048))).val)
    (sortedFrom_congr _ _ fun a b _ => ?_)
  rw [ref_far x1 x2 c X hX hc, ref_far x1 x2 c X hX hc, gt_iff]
  refine decide_eq_decide.mpr ?_
  rw [neg_lt_neg_iff, far_lt_iff c _ _ (hT i a) (hT i b)]
  exact Real.sqrt_lt_sqrt_iff (key_nonneg _ _ _ _)

include hX hc hT in
/-- The indices behind the wrapping of negative ones. -/
theorem ref_rows (i : Fin 2048) (k : Fin 16) : (val_main_v109 (F := Ideal) x1 x2 (ix3 i k 0)).toInt.toNat = (sel c X i k).val := by
  have h := ref_indices x1 x2 c X hX hc hT i k
  generalize sel c X i k = s at *
  have hw := word_int s.val (by omega)
  have e : val_main_v109 (F := Ideal) x1 x2 (ix3 i k 0) = BitVec.ofNat 32 s.val := by
    unfold val_main_v109 val_main_v108 val_main_v107 val_main_v105
    generalize val_main_indices (F := Ideal) x1 x2 = y at *
    pointwise [val_main_v104, val_main_v106, val_main_c_20, val_main_c_21]
    rw [h]
    rw [wrapped]
    rfl
  rw [e, hw]
  rfl

/-- The dimension numbers of a gather of whole rows. -/
abbrev rowDims (n d b k : ℕ) (wf : GatherDims.WF ⟨2, ![n, d]⟩ ⟨3, ![b, k, 1]⟩ ⟨3, ![b, k, d]⟩ [2] [0] [] [0] [] 2 ![1, d]) :
    GatherDims ⟨2, ![n, d]⟩ ⟨3, ![b, k, 1]⟩ ⟨3, ![b, k, d]⟩ where
  offsetDims := [2]
  collapsedSliceDims := [0]
  operandBatchingDims := []
  startIndicesBatchingDims := []
  startIndexMap := [0]
  indexVectorDim := 2
  sliceSizes := ![1, d]
  wf := wf

/-- A gather of whole rows reads the named row. -/
theorem rows_apply {α : Type} {n d b k : ℕ} (wf : GatherDims.WF ⟨2, ![n, d]⟩ ⟨3, ![b, k, 1]⟩ ⟨3, ![b, k, d]⟩ [2] [0] [] [0] [] 2 ![1, d])
    (x : (⟨2, ![n, d]⟩ : Shape).Idx → α) (idx : IVec ⟨3, ![b, k, 1]⟩ 32) (i : Fin b) (j : Fin k) (l : Fin d) (s : Fin n)
    (hs : (idx (ix3 i j 0)).toInt.toNat = s.val) : Host.gather (rowDims n d b k wf) x idx (ix3 i j l) = x (ix2 s l) := by
  unfold Host.gather
  congr 1
  funext a
  refine Fin.ext ?_
  show (rowDims n d b k wf).start (ix3 i j l) idx a + (rowDims n d b k wf).batchCoord (ix3 i j l) a
    + (rowDims n d b k wf).offCoord (ix3 i j l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims n d b k wf).startIndexMap from List.mem_singleton.mpr rfl)]
    have hsi : (rowDims n d b k wf).siIdx (ix3 i j l) ⟨List.idxOf (0 : Fin 2) (rowDims n d b k wf).startIndexMap,
        List.idxOf_lt_length_iff.2 (List.mem_singleton.mpr rfl)⟩ = ix3 i j 0 := by
      funext q; refine Fin.ext ?_
      match q with
      | ⟨0, _⟩ => rfl
      | ⟨1, _⟩ => rfl
      | ⟨2, _⟩ => rfl
    rw [hsi, hs]
    show min s.val (n - 1) + 0 + 0 = s.val
    have := s.isLt
    omega
  · unfold GatherDims.start GatherDims.offCoord
    rw [dif_neg (show (1 : Fin 2) ∉ (rowDims n d b k wf).startIndexMap by intro h; simp at h),
      dif_pos ((GatherDims.mem_sKept _ _).mpr ⟨by intro h; simp at h, List.not_mem_nil⟩)]
    simp only [Nat.zero_add]
    rfl

include hX hc hT in
theorem ref_pos (i : Fin 2048) (k p : Fin 16) : val_main_v124 (F := Ideal) x1 x2 (ix3 i k p) = (X (sel c X i k) p : EReal) :=
  (rows_apply (n := 2048) (d := 16) _ x1 (val_main_v123 (F := Ideal) x1 x2) i k p (sel c X i k) (ref_rows x1 x2 c X hX hc hT i k)).trans (hX _ _)

variable (x0 : FVec Ideal S2048x768 .f32) (x5 : FVec Ideal S768x768 .f32) (x6 x17 x18 : FVec Ideal S768 .f32)

include hX hc hT in
theorem ref_kk (i : Fin 2048) (k : Fin 16) (l : Fin 768) : val_main_v110 (F := Ideal) x0 x1 x2 x5 x6 x17 x18 (ix3 i k l)
    = val_main_v25 (F := Ideal) x0 x5 x6 x17 x18 (ix2 (sel c X i k) l) :=
  rows_apply (n := 2048) (d := 768) _ _ (val_main_v109 (F := Ideal) x1 x2) i k l (sel c X i k) (ref_rows x1 x2 c X hX hc hT i k)

include hX hc hT in
theorem ref_vv (i : Fin 2048) (k : Fin 16) (l : Fin 768) : val_main_v117 (F := Ideal) x0 x1 x2 x5 x6 x17 x18 (ix3 i k l)
    = val_main_v29 (F := Ideal) x0 x5 x6 x17 x18 (ix2 (sel c X i k) l) :=
  rows_apply (n := 2048) (d := 768) _ _ (val_main_v116 (F := Ideal) x1 x2) i k l (sel c X i k) (ref_rows x1 x2 c X hX hc hT i k)

end Cert.KernelIdeal.Att

end
-- ==== Proof.RLog.lean ====
/- The reference's log map over real contents: a combination of the two positions with the kernel's coefficients. -/
module

public import proofs.«01_k».proof.Proof.RTop

@[expose] public section

set_option maxRecDepth 16384

noncomputable section

namespace Cert.KernelIdeal.Att

open Idealize.ShloMosaic Cert.ReferenceIdeal Cert.ReferenceIdeal.Gen Cert.ReferenceIdeal.Read

/-- The numerator of the Moebius sum of `-i` and `j`. -/
def mob (c : ℝ) (X : Fin 2048 → Fin 16 → ℝ) (i j : Fin 2048) (p : Fin 16) : ℝ := ca c X i j * -X i p + cb c X i * X j p

theorem mob_len (c : ℝ) (X : Fin 2048 → Fin 16 → ℝ) (i j : Fin 2048) :
    √(∑ p, mob c X i j p / den c X i j * (mob c X i j p / den c X i j)) = nrm c X i j := by
  have h := root_scaled (fun p => mob c X i j p) (1 / den c X i j) (one_div_nonneg.mpr (den_pos _ _ _ _).le)
  simp only [mul_one_div] at h
  rw [h]
  unfold nrm
  rw [max_eq_left (num2_nonneg c X i j), num2_eq]
  rfl

theorem scl_nonneg (c : ℝ) (X : Fin 2048 → Fin 16 → ℝ) (i j : Fin 2048) : 0 ≤ scl c X i j := fac_nonneg c _

theorem mob_short (c : ℝ) (X : Fin 2048 → Fin 16 → ℝ) (i j : Fin 2048) :
    √(∑ p, mob c X i j p / den c X i j * scl c X i j * (mob c X i j p / den c X i j * scl c X i j)) = nrmP c X i j := by
  rw [root_scaled _ _ (scl_nonneg _ _ _ _), mob_len]
  rfl

/-- The log map's result is the combination of the two positions. -/
theorem log_comb (c : ℝ) (X : Fin 2048 → Fin 16 → ℝ) (i j : Fin 2048) (p : Fin 16) :
    (if nrmP c X i j < eps then 0
      else Real.artanh (arg c X i j) / rc c * (mob c X i j p / den c X i j * scl c X i j / max (nrmP c X i j) eps))
      = pco c X i j * X i p + qco c X i j * X j p := by
  unfold pco qco gam
  split
  · simp
  · rw [Real.artanh_eq_half_log ⟨by linarith [arg_pos c X i j], (arg_lt c X i j).le⟩]
    unfold mob
    ring

variable (x1 : FVec Ideal S2048x16 .f32) (x2 : FVec Ideal S_ .f32) (c : ℝ) (X : Fin 2048 → Fin 16 → ℝ)
  (hX : ∀ j p, x1 (ix2 j p) = (X j p : EReal)) (hc : x2 ix0 = (c : EReal)) (hT : ∀ i j, Told c √(key c X i j))
  (i : Fin 2048) (k : Fin 16)

include hX hc hT in
theorem log_s : val_main_v132 (F := Ideal) x1 x2 (ix3 i k 0) = (sq X (sel c X i k) : EReal) := by
  have h := ref_pos x1 x2 c X hX hc hT i k
  unfold val_main_v132 val_main_v131 val_main_v130
  generalize val_main_v124 (F := Ideal) x1 x2 = y at *
  pointwise [val_main_cst_27]
  simp only [h, ← EReal.coe_mul, coe_sum]
  rfl

include hX hc hT in
theorem log_g : val_main_v136 (F := Ideal) x1 x2 (ix3 i k 0) = ((-ip X i (sel c X i k) : ℝ) : EReal) := by
  have h := ref_pos x1 x2 c X hX hc hT i k
  unfold val_main_v136 val_main_v135 val_main_v134
  generalize val_main_v124 (F := Ideal) x1 x2 = y at *
  pointwise [val_main_v133, val_main_v126, val_main_v125, val_main_cst_28]
  simp only [h, hX, ← EReal.coe_neg, ← EReal.coe_mul, coe_sum, neg_mul, Finset.sum_neg_distrib]
  rfl

include hX hc hT in
theorem log_num (p : Fin 16) : val_main_v154 (F := Ideal) x1 x2 (ix3 i k p) = (mob c X i (sel c X i k) p : EReal) := by
  have h := ref_pos x1 x2 c X hX hc hT i k
  have h1 : val_main_v129 (F := Ideal) x1 (ix3 i 0 0) = _ := ref_si x1 X hX i
  have h2 := log_s x1 x2 c X hX hc hT i k
  have h3 := log_g x1 x2 c X hX hc hT i k
  unfold val_main_v154 val_main_v153 val_main_v152 val_main_v151 val_main_v150 val_main_v149 val_main_v148 val_main_v147 val_main_v146
    val_main_v145 val_main_v144 val_main_v143 val_main_v142 val_main_v141 val_main_v140 val_main_v139 val_main_v138
  generalize val_main_v124 (F := Ideal) x1 x2 = y at *
  generalize val_main_v129 (F := Ideal) x1 = y1 at *
  generalize val_main_v132 (F := Ideal) x1 x2 = y2 at *
  generalize val_main_v136 (F := Ideal) x1 x2 = y3 at *
  pointwise [val_main_v137, val_main_v126, val_main_v125, val_main_cst_29, val_main_cst_30, val_main_cst_31]
  simp only [h, h1, h2, h3, hX, hc, word_two, real_one, ← EReal.coe_neg, ← EReal.coe_mul, ← EReal.coe_sub, ← EReal.coe_add]
  unfold mob ca cb
  congr 1
  ring

include hX hc hT in
theorem log_den : val_main_v166 (F := Ideal) x1 x2 (ix3 i k 0) = (den c X i (sel c X i k) : EReal) := by
  have h1 : val_main_v129 (F := Ideal) x1 (ix3 i 0 0) = _ := ref_si x1 X hX i
  have h2 := log_s x1 x2 c X hX hc hT i k
  have h3 := log_g x1 x2 c X hX hc hT i k
  unfold val_main_v166 val_main_v165 val_main_v164 val_main_v163 val_main_v162 val_main_v161 val_main_v160 val_main_v159 val_main_v158
    val_main_v157 val_main_v156
  generalize val_main_v129 (F := Ideal) x1 = y1 at *
  generalize val_main_v132 (F := Ideal) x1 x2 = y2 at *
  generalize val_main_v136 (F := Ideal) x1 x2 = y3 at *
  pointwise [val_main_v155, val_main_cst_32, val_main_cst_33, val_main_cst_34, val_main_call8_v1, val_main_call8_v0]
  simp only [h1, h2, h3, hc, word_two, id_eq, cell_eps, real_one, ← EReal.coe_neg, ← EReal.coe_mul, ← EReal.coe_sub, ← EReal.coe_add, real_max]
  unfold den
  rw [max_comm]
  congr 2
  ring

include hX hc hT in
theorem log_len : val_main_v169 (F := Ideal) x1 x2 (ix3 i k 0) = (nrm c X i (sel c X i k) : EReal) := by
  have h1 := log_num x1 x2 c X hX hc hT i k
  have h2 := log_den x1 x2 c X hX hc hT i k
  unfold val_main_v169 val_main_call9_v2 val_main_call9_v1 val_main_call9_v0 val_main_v168 val_main_v167
  generalize val_main_v154 (F := Ideal) x1 x2 = y1 at *
  generalize val_main_v166 (F := Ideal) x1 x2 = y2 at *
  pointwise [val_main_call9_cst]
  simp only [h1, h2, div_real _ _ (den_pos c X i _).ne', ← EReal.coe_mul, coe_sum]
  rw [real_root _ (Finset.sum_nonneg fun p _ => mul_self_nonneg _), mob_len]

include hX hc hT in
theorem log_scl : val_main_v177 (F := Ideal) x1 x2 (ix3 i k 0) = (scl c X i (sel c X i k) : EReal) := by
  have h1 := log_len x1 x2 c X hX hc hT i k
  have h2 := ref_rc x2 c hc
  unfold val_main_v177 val_main_v176 val_main_v175 val_main_v174 val_main_v173 val_main_v170
  rw [show val_main_v172 (F := Ideal) x2 = val_main_v33 x2 from rfl]
  generalize val_main_v169 (F := Ideal) x1 x2 = y1 at *
  generalize val_main_v33 (F := Ideal) x2 = y2 at *
  pointwise [val_main_call10_v1, val_main_call10_v0, val_main_cst_35, val_main_cst_37, val_main_cst_38]
  simp only [h1, h2, id_eq, cell_eps, word_eta, real_one, max_comm (eps : EReal), real_max, div_real _ _ (rc_pos c).ne', div_real _ _ (max_eps_ne _), real_min]
  rfl

include hX hc hT in
theorem log_vec (p : Fin 16) : val_main_v179 (F := Ideal) x1 x2 (ix3 i k p)
    = ((mob c X i (sel c X i k) p / den c X i (sel c X i k) * scl c X i (sel c X i k) : ℝ) : EReal) := by
  have h1 := log_num x1 x2 c X hX hc hT i k
  have h2 := log_den x1 x2 c X hX hc hT i k
  have h3 := log_scl x1 x2 c X hX hc hT i k
  unfold val_main_v179 val_main_v178 val_main_v168 val_main_v167
  generalize val_main_v154 (F := Ideal) x1 x2 = y1 at *
  generalize val_main_v166 (F := Ideal) x1 x2 = y2 at *
  generalize val_main_v177 (F := Ideal) x1 x2 = y3 at *
  pointwise
  simp only [h1, h2, h3, div_real _ _ (den_pos c X i _).ne', ← EReal.coe_mul]

include hX hc hT in
theorem log_short : val_main_v182 (F := Ideal) x1 x2 (ix3 i k 0) = (nrmP c X i (sel c X i k) : EReal) := by
  have h := log_vec x1 x2 c X hX hc hT i k
  unfold val_main_v182 val_main_call13_v2 val_main_call13_v1 val_main_call13_v0
  generalize val_main_v179 (F := Ideal) x1 x2 = y at *
  pointwise [val_main_call13_cst]
  simp only [h, ← EReal.coe_mul, coe_sum]
  rw [real_root _ (Finset.sum_nonneg fun p _ => mul_self_nonneg _), mob_short]

include hX hc hT in
/-- The log map's result. -/
theorem log_out (p : Fin 16) : val_main_v198 (F := Ideal) x1 x2 (ix3 i k p)
    = ((pco c X i (sel c X i k) * X i p + qco c X i (sel c X i k) * X (sel c X i k) p : ℝ) : EReal) := by
  have h1 := log_vec x1 x2 c X hX hc hT i k
  have h2 := log_short x1 x2 c X hX hc hT i k
  have h3 := ref_rc x2 c hc
  unfold val_main_v198 val_main_v197 val_main_v196 val_main_v194 val_main_v193 val_main_v192 val_main_v191 val_main_v190 val_main_v189
    val_main_v188 val_main_v187 val_main_v186 val_main_v185 val_main_call15_v0 val_main_v184
  rw [show val_main_v181 (F := Ideal) x2 = val_main_v33 x2 from rfl]
  generalize val_main_v179 (F := Ideal) x1 x2 = y1 at *
  generalize val_main_v182 (F := Ideal) x1 x2 = y2 at *
  generalize val_main_v33 (F := Ideal) x2 = y3 at *
  pointwise [val_main_v183, val_main_v195, val_main_call14_v1, val_main_call14_v0, val_main_cst_40, val_main_cst_41, val_main_cst_42, val_main_cst_43]
  simp only [h1, h2, h3, id_eq, cell_eps, word_eps, word_eta, max_comm (eps : EReal), real_max, real_min, ← EReal.coe_mul, EReal.coe_lt_coe_iff]
  rw [show min (rc c * max (nrmP c X i (sel c X i k)) eps) eta = arg c X i (sel c X i k) from rfl,
    real_atanh _ (by linarith [arg_pos c X i (sel c X i k)]) (arg_lt _ _ _ _)]
  simp only [div_real _ _ (rc_pos c).ne', div_real _ _ (max_eps_ne _), ← EReal.coe_mul]
  rw [← log_comb]
  by_cases hz : nrmP c X i (sel c X i k) < eps <;> simp [hz]

end Cert.KernelIdeal.Att

end
-- ==== Proof.RAtt.lean ====
/- The reference's attention over real contents: scores, softmax and the weighted sum of the values. -/
module

public import proofs.«01_k».proof.Proof.RLog
public import proofs.«01_k».proof.Proof.KAtt
public import proofs.«01_k».proof.Proof.Ins

@[expose] public section

set_option maxRecDepth 16384

noncomputable section

namespace Cert.KernelIdeal.Att

open Idealize.ShloMosaic Cert.ReferenceIdeal Cert.ReferenceIdeal.Gen Cert.ReferenceIdeal.Read

theorem split4 (i : Fin 2048) (k : Fin 16) (h : Fin 12) (d : Fin 64) : idx_main_v203 (ix4 i k h d) = ix3 i k (headCol h d) := by
  have h0 := i.isLt; have h1 := k.isLt; have h2 := h.isLt; have h3 := d.isLt
  funext a
  match a with
  | ⟨0, _⟩ => refine Fin.ext ?_; show (((i.val * 16 + k.val) * 12 + h.val) * 64 + d.val) / 12288 = i.val; omega
  | ⟨1, _⟩ => refine Fin.ext ?_; show (((i.val * 16 + k.val) * 12 + h.val) * 64 + d.val) / 768 % 16 = k.val; omega
  | ⟨2, _⟩ => refine Fin.ext ?_; show (((i.val * 16 + k.val) * 12 + h.val) * 64 + d.val) % 768 = 64 * h.val + d.val; omega

theorem split3 (i : Fin 2048) (h : Fin 12) (d : Fin 64) : idx_main_v204 (ix3 i h d) = ix2 i (headCol h d) := by
  have h0 := i.isLt; have h2 := h.isLt; have h3 := d.isLt
  funext a
  match a with
  | ⟨0, _⟩ => refine Fin.ext ?_; show ((i.val * 12 + h.val) * 64 + d.val) / 768 = i.val; omega
  | ⟨1, _⟩ => refine Fin.ext ?_; show ((i.val * 12 + h.val) * 64 + d.val) % 768 = 64 * h.val + d.val; omega

theorem join3 (i : Fin 2048) (l : Fin 768) : idx_main_v230 (ix2 i l) = ix3 i (headOf l) (withinOf l) := by
  have h0 := i.isLt; have h1 := l.isLt
  funext a
  match a with
  | ⟨0, _⟩ => refine Fin.ext ?_; show (i.val * 768 + l.val) / 768 = i.val; omega
  | ⟨1, _⟩ => refine Fin.ext ?_; show (i.val * 768 + l.val) / 64 % 12 = l.val / 64; omega
  | ⟨2, _⟩ => refine Fin.ext ?_; show (i.val * 768 + l.val) % 64 = l.val % 64; omega

theorem word_eight : Ideal.ofBits .f32 0x41000000#32 = ((8 : ℝ) : EReal) := by
  simp [Ideal.ofBits, Ideal.ieee, -EReal.coe_mul]; norm_num

/-- A query's product with a transformed combination of positions, shifted, is the score's. -/
theorem align (Q : Fin 2048 → Fin 768 → ℝ) (Wg : Fin 16 → Fin 768 → ℝ) (bg : Fin 768 → ℝ) (X : Fin 2048 → Fin 16 → ℝ) (u v : ℝ)
    (i j : Fin 2048) (h : Fin 12) :
    ∑ d : Fin 64, Q i (headCol h d) * ((∑ p, (u * X i p + v * X j p) * Wg p (headCol h d)) + bg (headCol h d))
      = (u * (∑ p, qw Q Wg i h p * X i p) + v * ∑ p, qw Q Wg i h p * X j p) + ∑ d : Fin 64, Q i (headCol h d) * bg (headCol h d) := by
  simp only [mul_add, Finset.sum_add_distrib]
  congr 1
  unfold qw
  simp only [Finset.mul_sum, Finset.sum_mul]
  rw [Finset.sum_comm, ← Finset.sum_add_distrib]
  refine Finset.sum_congr rfl fun p _ => ?_
  rw [← Finset.sum_add_distrib]
  exact Finset.sum_congr rfl fun d _ => by ring

variable (x0 : FVec Ideal S2048x768 .f32) (x1 : FVec Ideal S2048x16 .f32) (x2 : FVec Ideal S_ .f32) (x3 x5 x7 : FVec Ideal S768x768 .f32)
  (x4 x6 x8 : FVec Ideal S768 .f32) (x9 : FVec Ideal S16x768 .f32) (x10 : FVec Ideal S768 .f32) (x17 x18 : FVec Ideal S768 .f32)
  (x21 x22 : FVec Ideal S12 .f32) (c : ℝ) (X : Fin 2048 → Fin 16 → ℝ) (Q K : Fin 2048 → Fin 768 → ℝ) (Wg : Fin 16 → Fin 768 → ℝ)
  (bg : Fin 768 → ℝ) (al f : Fin 12 → ℝ) (H : Ins x0 x1 x2 x3 x5 x4 x6 x9 x10 x17 x18 x21 x22 c X Q K Wg bg al f)
  (hT : ∀ i j, Told c √(key c X i j)) (i : Fin 2048)

include H hT

theorem att_geo (k : Fin 16) (l : Fin 768) : val_main_v202 (F := Ideal) x1 x2 x9 x10 (ix3 i k l)
    = (((∑ p, (pco c X i (sel c X i k) * X i p + qco c X i (sel c X i k) * X (sel c X i k) p) * Wg p l) + bg l : ℝ) : EReal) := by
  have h := log_out x1 x2 c X H.pos H.curv hT i k
  unfold val_main_v202 val_main_v199
  generalize val_main_v198 (F := Ideal) x1 x2 = y at *
  pointwise [val_main_v201, val_main_v200, dot_S2048x16x16_S16x768_S2048x16x768_2_0_01_1_n_n]
  simp only [h, H.wg, H.bg, ← EReal.coe_mul, coe_sum, ← EReal.coe_add]

theorem att_align (h : Fin 12) (k : Fin 16) : val_main_v207 (F := Ideal) x0 x1 x2 x3 x4 x9 x10 x17 x18 (ix3 i h k)
    = (((pco c X i (sel c X i k) * (∑ p, qw Q Wg i h p * X i p) + qco c X i (sel c X i k) * ∑ p, qw Q Wg i h p * X (sel c X i k) p)
        + ∑ d : Fin 64, Q i (headCol h d) * bg (headCol h d) : ℝ) : EReal) := by
  have hq : ∀ d, val_main_v204 (F := Ideal) x0 x3 x4 x17 x18 (ix3 i h d) = (Q i (headCol h d) : EReal) := fun d => by
    rw [val_main_v204_apply, split3, ref_q, H.q]
  have hs : ∀ d, val_main_v203 (F := Ideal) x1 x2 x9 x10 (ix4 i k h d) = val_main_v202 (F := Ideal) x1 x2 x9 x10 (ix3 i k (headCol h d)) :=
    fun d => by rw [val_main_v203_apply, split4]
  have hg := fun d => (hs d).trans (att_geo x0 x1 x2 x3 x5 x4 x6 x9 x10 x17 x18 x21 x22 c X Q K Wg bg al f H hT i k (headCol h d))
  clear hs
  unfold val_main_v207
  generalize val_main_v204 (F := Ideal) x0 x3 x4 x17 x18 = y1 at *
  generalize val_main_v203 (F := Ideal) x1 x2 x9 x10 = y2 at *
  pointwise [dot_S2048x12x64_S2048x16x12x64_S2048x12x16_2_3_n_1_01_02]
  simp only [hq, hg, ← EReal.coe_mul, coe_sum]
  rw [align]

theorem att_feature (h : Fin 12) (k : Fin 16) : val_main_v208 (F := Ideal) x0 x1 x2 x3 x4 x5 x6 x17 x18 (ix3 i h k)
    = ((∑ d : Fin 64, Q i (headCol h d) * K (sel c X i k) (headCol h d) : ℝ) : EReal) := by
  have hq : ∀ d, val_main_v204 (F := Ideal) x0 x3 x4 x17 x18 (ix3 i h d) = (Q i (headCol h d) : EReal) := fun d => by
    rw [val_main_v204_apply, split3, ref_q, H.q]
  have hg : ∀ d, val_main_v205 (F := Ideal) x0 x1 x2 x5 x6 x17 x18 (ix4 i k h d) = (K (sel c X i k) (headCol h d) : EReal) := fun d => by
    rw [val_main_v205_apply]
    refine (congrArg _ (split4 i k h d)).trans ?_
    rw [ref_kk x1 x2 c X H.pos H.curv hT, ref_k, H.k]
  unfold val_main_v208
  generalize val_main_v204 (F := Ideal) x0 x3 x4 x17 x18 = y1 at *
  generalize val_main_v205 (F := Ideal) x0 x1 x2 x5 x6 x17 x18 = y2 at *
  pointwise [dot_S2048x12x64_S2048x16x12x64_S2048x12x16_2_3_n_1_01_02]
  simp only [hq, hg, ← EReal.coe_mul, coe_sum]

/-- The scores: the kernel's, shifted by what the row and the head have alike. -/
theorem att_score (h : Fin 12) (k : Fin 16) : val_main_v217 (F := Ideal) x0 x1 x2 x3 x4 x5 x6 x9 x10 x17 x18 x21 x22 (ix3 i h k)
    = ((score c X Q K Wg al f i h (sel c X i k) + al h * ∑ d : Fin 64, Q i (headCol h d) * bg (headCol h d) : ℝ) : EReal) := by
  have h1 := att_align x0 x1 x2 x3 x5 x4 x6 x9 x10 x17 x18 x21 x22 c X Q K Wg bg al f H hT i h k
  have h2 := att_feature x0 x1 x2 x3 x5 x4 x6 x9 x10 x17 x18 x21 x22 c X Q K Wg bg al f H hT i h k
  unfold val_main_v217 val_main_v216 val_main_v213 val_main_v210
  generalize val_main_v207 (F := Ideal) x0 x1 x2 x3 x4 x9 x10 x17 x18 = y1 at *
  generalize val_main_v208 (F := Ideal) x0 x1 x2 x3 x4 x5 x6 x17 x18 = y2 at *
  pointwise [val_main_v209, val_main_v211, val_main_v212, val_main_v214, val_main_v215, val_main_cst_44]
  simp only [h1, h2, H.al, H.fs, word_eight, div_real _ _ (by norm_num : (8 : ℝ) ≠ 0), ← EReal.coe_mul, ← EReal.coe_add]
  unfold score
  congr 1
  ring

theorem att_out (l : Fin 768) : val_main_v230 (F := Ideal) x0 x1 x2 x3 x4 x5 x6 x7 x8 x9 x10 x17 x18 x21 x22 (ix2 i l)
    = attend c X Q K Wg al f (fun j l => val_main_v29 (F := Ideal) x0 x7 x8 x17 x18 (ix2 j l)) i (headOf l) (withinOf l) := by
  rw [val_main_v230_apply, join3]
  generalize headOf l = h
  generalize withinOf l = d
  have hs := att_score x0 x1 x2 x3 x5 x4 x6 x9 x10 x17 x18 x21 x22 c X Q K Wg bg al f H hT i h
  have hv : ∀ k, val_main_v206 (F := Ideal) x0 x1 x2 x7 x8 x17 x18 (ix4 i k h d)
      = val_main_v29 (F := Ideal) x0 x7 x8 x17 x18 (ix2 (sel c X i k) (headCol h d)) := fun k => by
    rw [val_main_v206_apply]
    refine (congrArg _ (split4 i k h d)).trans ?_
    rw [ref_vv x1 x2 c X H.pos H.curv hT]
  unfold val_main_v229 val_main_v228 val_main_v227 val_main_v226 val_main_v225 val_main_v224 val_main_v223 val_main_v222 val_main_v221
    val_main_v220 val_main_v219 val_main_v218
  generalize val_main_v217 (F := Ideal) x0 x1 x2 x3 x4 x5 x6 x9 x10 x17 x18 x21 x22 = y1 at *
  generalize val_main_v206 (F := Ideal) x0 x1 x2 x7 x8 x17 x18 = y2 at *
  pointwise [val_main_cst_45, val_main_cst_46, val_main_cst_47, dot_S2048x12x16_S2048x16x12x64_S2048x12x64_2_1_n_3_01_02]
  simp only [word_least, hv, max_bot_left]
  exact soft_selected (by norm_num : 0 < 16) (fun k => score c X Q K Wg al f i h (sel c X i k))
    (fun k => val_main_v29 (F := Ideal) x0 x7 x8 x17 x18 (ix2 (sel c X i k) (headCol h d))) _ (fun k => y1 (ix3 i h k)) hs

end Cert.KernelIdeal.Att

end
-- ==== Proof.PreRead.lean ====
/- What the precondition says of the arguments: real entries wherever the attention reads, and distances told apart. -/
module

public import proofs.«01_k».proof.Defs
public import proofs.«01_k».proof.Proof.RDist
public import proofs.«01_k».proof.Proof.Ins

@[expose] public section

set_option maxRecDepth 16384

noncomputable section

namespace Cert.KernelIdeal.Att

open Idealize.ShloMosaic Idealize.ShloMosaic.Tactic Cert.Pre_separated

/-- The precondition's side conditions hold. -/
instance preFacts : Cert.Pre_separated.Facts where
  reducesTo_S2048x16_S2048_d1 := by decide
  h_S_ := by decide
  bcast_S2048_S2048x1_0 := by decide
  bcast_S2048_S1x2048_1 := by decide
  transposes_S2048x16_S16x2048_1_0 := by decide
  bcast_S_S2048x2048 := by decide
  bcast_S_S2048x1 := by decide
  bcast_S2048x1_S2048x2048_0_1 := by decide
  bcast_S1x2048_S2048x2048_0_1 := by decide
  bcast_S_S1x2048 := by decide
  bcast_S_S2048x768 := by decide
  bcast_S_S2048x16 := by decide
  bcast_S_S768x768 := by decide
  bcast_S_S768 := by decide
  bcast_S_S16x768 := by decide
  bcast_S_S12 := by decide
  dot_S2048x16_S16x2048_S2048x2048_1_0_0_1_n_n_wf := by decide

/-- Infinity's word. -/
theorem word_top : Ideal.ofBits .f32 0x7F800000#32 = (⊤ : EReal) := by
  simp [Ideal.ofBits, Ideal.ieee]

/-- An extended real whose absolute value is below infinity is real. -/
theorem real_of_abs (e : EReal) (h : BitVec.ofBool (decide (max e (-e) < Ideal.ofBits .f32 0x7F800000#32)) = 1#1) : ∃ r : ℝ, e = (r : EReal) := by
  rw [word_top] at h
  induction e with
  | bot => simp at h
  | coe r => exact ⟨r, rfl⟩
  | top => simp at h

/-- An array whose entries' absolute values are all below infinity is real. -/
theorem real_of_finite {s : Shape} (a : FVec Ideal s .f32) (hb : S_.BroadcastsInDim s (![] : Fin 0 → Fin s.rank))
    (h : cmpf .olt (Host.absf a) (broadcastInDim s ![] hb (constant (F := Ideal) S_ .f32 0x7F800000#32)) = fun _ => 1#1) (i : s.Idx) :
    ∃ r : ℝ, a i = (r : EReal) :=
  real_of_abs (a i) (congrFun h i)

/-- One bit, or three bits together. -/
theorem bits_or (p q r s : Prop) [Decidable p] [Decidable q] [Decidable r] [Decidable s]
    (h : IntOp.ori (BitVec.ofBool (decide p)) (IntOp.andi (IntOp.andi (BitVec.ofBool (decide q)) (BitVec.ofBool (decide r))) (BitVec.ofBool (decide s)))
      = 1#1) : p ∨ (q ∧ r ∧ s) := by
  by_cases hp : p
  · exact Or.inl hp
  · by_cases hq : q <;> by_cases hr : r <;> by_cases hs : s <;> simp_all [IntOp.ori, IntOp.andi]

section
variable (x0 : FVec Ideal S2048x768 .f32) (x1 : FVec Ideal S2048x16 .f32) (x2 : FVec Ideal S_ .f32) (x3 x5 x7 x11 : FVec Ideal S768x768 .f32)
  (x4 x6 x8 x10 x12 x16 x17 x18 x19 x20 : FVec Ideal S768 .f32) (x9 : FVec Ideal S16x768 .f32) (x13 : FVec Ideal S768x3072 .f32)
  (x14 : FVec Ideal S3072 .f32) (x15 : FVec Ideal S3072x768 .f32) (x21 x22 : FVec Ideal S12 .f32)

variable (κ : ℝ) (X : Fin 2048 → Fin 16 → ℝ) (hX : ∀ j p, x1 (ix2 j p) = (X j p : EReal)) (hc : x2 ix0 = (κ : EReal))

include hX hc in
/-- The distances' condition, of two positions. -/
theorem pre_told (i j : Fin 2048)
    (h : (Cert.Pre_separated.fn x0 x1 x2 x3 x4 x5 x6 x7 x8 x9 x10 x11 x12 x13 x14 x15 x16 x17 x18 x19 x20 x21 x22).1 (ix2 i j) = 1#1) :
    Told κ √(key κ X i j) := by
  have hD : max (1 - 2 * κ * ∑ x, X i x * X j x + κ * κ * (∑ x, X i x * X i x) * ∑ x, X j x * X j x) eps = den κ X j i := by
    unfold den sq ip
    rw [show (∑ x, X i x * X j x) = ∑ x, X j x * X i x from Finset.sum_congr rfl fun p _ => mul_comm _ _]
    congr 1
    ring
  have hA : 1 - 2 * κ * ∑ x, X i x * X j x + κ * ∑ x, X i x * X i x = ca κ X j i := by
    unfold ca sq ip
    rw [show (∑ x, X i x * X j x) = ∑ x, X j x * X i x from Finset.sum_congr rfl fun p _ => mul_comm _ _]
  have hB : 1 - κ * ∑ x, X j x * X j x = cb κ X j := rfl
  have hN : ca κ X j i * ca κ X j i * (∑ x, X j x * X j x) - 2 * ca κ X j i * cb κ X j * (∑ x, X i x * X j x)
      + cb κ X j * cb κ X j * (∑ x, X i x * X i x) = num2 κ X j i := by
    unfold num2 sq ip
    rw [show (∑ x, X i x * X j x) = ∑ x, X j x * X i x from Finset.sum_congr rfl fun p _ => mul_comm _ _]
  have hR := real_root (key κ X i j) (key_nonneg _ _ _ _)
  have hK : num2 κ X j i / (den κ X j i * den κ X j i) = key κ X i j := rfl
  revert h
  unfold fn fn_part1 fn_part2 fn_part3 fn_part4 fn_part5
  dsimp only
  pointwise []
  simp only [hX, hc, word_two, word_eps, word_eta, real_rc, real_one, ← EReal.coe_mul, ← EReal.coe_sub, ← EReal.coe_add, coe_sum, real_max, hD, hA, hB, hN,
    div_real _ _ (mul_self_ne_zero.mpr (den_pos κ X j i).ne'), hK, hR, EReal.coe_lt_coe_iff, EReal.coe_le_coe_iff]
  intro h
  rcases bits_or _ _ _ _ h with h | h
  · exact Or.inl (EReal.coe_eq_zero.mp h)
  · exact Or.inr h

end

open Cert.KernelIdeal in
/-- Under the precondition the arguments that the attention reads are real, and it tells the distances apart. -/
theorem pre_ins (m : (ℓ : Loc nD τ sig) → Buf (Elt Ideal) ℓ) (hm : Cert.Pre_KernelIdeal_separated m) (c : Dev nD) :
    ∃ (κ : ℝ) (X : Fin 2048 → Fin 16 → ℝ) (Q K : Fin 2048 → Fin 768 → ℝ) (Wg : Fin 16 → Fin 768 → ℝ) (bg : Fin 768 → ℝ) (al f : Fin 12 → ℝ),
      Ins (m (c.tc.loc main_arg0)) (m (c.tc.loc main_arg1)) (m (c.tc.loc main_arg2)) (m (c.tc.loc main_arg3)) (m (c.tc.loc main_arg5))
        (m (c.tc.loc main_arg4)) (m (c.tc.loc main_arg6)) (m (c.tc.loc main_arg9)) (m (c.tc.loc main_arg10)) (m (c.tc.loc main_arg17))
        (m (c.tc.loc main_arg18)) (m (c.tc.loc main_arg21)) (m (c.tc.loc main_arg22)) κ X Q K Wg bg al f
      ∧ ∀ i j, Told κ √(key κ X i j) := by
  obtain ⟨h, h0, h1, h2, h3, h4, h5, h6, h9, h10, h17, h18, h21, h22⟩ := hm c
  have r0 := real_of_finite (s := S2048x768) (m (c.tc.loc main_arg0)) _ h0
  have r1 := real_of_finite (s := S2048x16) (m (c.tc.loc main_arg1)) _ h1
  have r2 : ∃ r : ℝ, (m (c.tc.loc main_arg2) : FVec Ideal S_ .f32) ix0 = (r : EReal) := real_of_abs _ (congrFun h2 ix0)
  have r3 := real_of_finite (s := S768x768) (m (c.tc.loc main_arg3)) _ h3
  have r4 := real_of_finite (s := S768) (m (c.tc.loc main_arg4)) _ h4
  have r5 := real_of_finite (s := S768x768) (m (c.tc.loc main_arg5)) _ h5
  have r6 := real_of_finite (s := S768) (m (c.tc.loc main_arg6)) _ h6
  have r9 := real_of_finite (s := S16x768) (m (c.tc.loc main_arg9)) _ h9
  have r10 := real_of_finite (s := S768) (m (c.tc.loc main_arg10)) _ h10
  have r17 := real_of_finite (s := S768) (m (c.tc.loc main_arg17)) _ h17
  have r18 := real_of_finite (s := S768) (m (c.tc.loc main_arg18)) _ h18
  have r21 := real_of_finite (s := S12) (m (c.tc.loc main_arg21)) _ h21
  have r22 := real_of_finite (s := S12) (m (c.tc.loc main_arg22)) _ h22
  have rows := fun i l => ln_real _ _ _ (fun k => r0 (ix2 i k)) (fun k => r17 (ix1 k)) (fun k => r18 (ix1 k)) l
  choose Q hQ using fun i l => dense_real _ _ _ (rows i) (fun k l => r3 (ix2 k l)) (fun l => r4 (ix1 l)) l
  choose K hK using fun i l => dense_real _ _ _ (rows i) (fun k l => r5 (ix2 k l)) (fun l => r6 (ix1 l)) l
  obtain ⟨κ, hκ⟩ := r2
  choose X hX using fun j p => r1 (ix2 j p)
  choose Wg hW using fun p d => r9 (ix2 p d)
  choose bg hb using fun d => r10 (ix1 d)
  choose al ha using fun h => r21 (ix1 h)
  choose f hf using fun h => r22 (ix1 h)
  exact ⟨κ, X, Q, K, Wg, bg, al, f, ⟨hX, hκ, hQ, hK, hW, hb, ha, hf⟩,
    fun i j => pre_told _ _ _ _ _ _ _ _ _ _ _ _ _ _ _ _ _ _ _ _ _ _ _ κ X hX hκ i j (congrFun h (ix2 i j))⟩

end Cert.KernelIdeal.Att

end
-- ==== Proof.Meet.lean ====
/- Both programs' results are one array. -/
module

public import proofs.«01_k».proof.Proof.KRes
public import proofs.«01_k».proof.Proof.RAtt
public import proofs.«01_k».proof.Proof.PreRead

@[expose] public section

set_option maxRecDepth 16384

noncomputable section

namespace Cert.KernelIdeal.Att

open Idealize.ShloMosaic Cert.KernelIdeal Cert.KernelIdeal.Gen Cert.ReferenceIdeal.Read

/-- A distance that is told from the others has a key far below the selection's mark. -/
theorem key_small (κ d : ℝ) (h : Told κ √d) (hd : 0 ≤ d) : d < 14791142 * 2 ^ 103 := by
  have h1 : √d < 1 := by
    rcases h with h | h
    · rw [h]; exact one_pos
    · exact h.2.1.trans_lt eta_lt
  have h2 : d < 1 := by nlinarith [Real.sqrt_nonneg d, Real.mul_self_sqrt hd]
  exact h2.trans (by norm_num)

/-- The idealized kernel's result is the reference's. -/
theorem meet (m : (ℓ : Loc nD τ sig) → Buf (Elt Ideal) ℓ) (hm : Cert.Pre_KernelIdeal_separated m) (ρ : Dev nD → PrngReg) (c : Dev nD) :
    W6 m ρ c (Proc.devRef .tc main_v146) = val_main_v275 (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)) (m (c.tc.loc main_arg9)) (m (c.tc.loc main_arg10)) (m (c.tc.loc main_arg11)) (m (c.tc.loc main_arg12))
      (m (c.tc.loc main_arg13)) (m (c.tc.loc main_arg14)) (m (c.tc.loc main_arg15)) (m (c.tc.loc main_arg16)) (m (c.tc.loc main_arg17))
      (m (c.tc.loc main_arg18)) (m (c.tc.loc main_arg19)) (m (c.tc.loc main_arg20)) (m (c.tc.loc main_arg21)) (m (c.tc.loc main_arg22)) := by
  obtain ⟨κ, X, Q, K, Wg, bg, al, f, H, hT⟩ := pre_ins m hm c
  have hk := kernel_result (m := m) (ρ := ρ) (c := c) (H := H) (hk := fun i j => key_small κ _ (hT i j) (key_nonneg κ X i j))
  refine hk.trans ?_
  funext i
  obtain ⟨a, b, rfl⟩ : ∃ a b, i = ix2 a b := ⟨i 0, i 1, (ix2_eta i).symm⟩
  rw [ref_out]
  have hv : valRow m c = fun j l => val_main_v29 (F := Ideal) (m (c.tc.loc main_arg0)) (m (c.tc.loc main_arg7)) (m (c.tc.loc main_arg8))
      (m (c.tc.loc main_arg17)) (m (c.tc.loc main_arg18)) (ix2 j l) := by
    funext j l
    exact (ref_v _ _ _ _ _ j l).symm
  have ha := fun k => att_out (x7 := m (c.tc.loc main_arg7)) (x8 := m (c.tc.loc main_arg8)) (H := H) (hT := hT) (i := a) (l := k)
  rw [hv]
  simp only [ha]
  rfl

end Cert.KernelIdeal.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Meet
public import Idealize.ShloMosaic.Adequacy
public import Idealize.ShloMosaic.Init

@[expose] public section

noncomputable section

namespace Cert.Proof

open Idealize.ShloMosaic Idealize.SL.Sem

/-- The reference's arguments end unchanged; it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constants keep their words. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 _ rfl⟩

open Cert.KernelIdeal Cert.KernelIdeal.Gen Cert.KernelIdeal.Att in
/-- Under the precondition both programs end with the same result. -/
theorem algebraic : Cert.algebraic_KernelIdeal_ReferenceIdeal_pre_separated := by
  intro m ρ m' ρ' hm heq
  refine ⟨fun c => W6 m ρ c (Proc.devRef .tc main_v146), ?_, ?_⟩
  · refine (θ_run Cert.KernelIdeal.defs _ _).mono (fun r h c => ?_) (run_all m ρ)
    exact ⟨h c _ (mem_uc main_v146 (by decide)), (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c),
      (h c _ (mem_uc main_arg18 (by decide))).trans (W6_main_arg18 m ρ c),
      (h c _ (mem_uc main_arg19 (by decide))).trans (W6_main_arg19 m ρ c),
      (h c _ (mem_uc main_arg20 (by decide))).trans (W6_main_arg20 m ρ c),
      (h c _ (mem_uc main_arg21 (by decide))).trans (W6_main_arg21 m ρ c),
      (h c _ (mem_uc main_arg22 (by decide))).trans (W6_main_arg22 m ρ c)⟩
  · refine (θ_run Cert.ReferenceIdeal.defs _ _).mono (fun r h c => ⟨(h c).1.trans ?_, (h c).2⟩) (Cert.ReferenceIdeal.Value.run (F := Ideal) m' ρ')
    refine (Cert.ReferenceIdeal.Read.val_main_v275_eq _).trans (Eq.trans ?_ (meet m hm ρ c).symm)
    obtain ⟨e0, e1, e2, e3, e4, e5, e6, e7, e8, e9, e10, e11, e12, e13, e14, e15, e16, e17, e18, e19, e20, e21, e22⟩ := heq c
    rw [← e0, ← e1, ← e2, ← e3, ← e4, ← e5, ← e6, ← e7, ← e8, ← e9, ← e10, ← e11, ← e12, ← e13, ← e14, ← e15, ← e16, ← e17, ← e18, ← e19, ← e20, ← e21, ← e22]

theorem claim : Cert.Claim :=
  ⟨Cert.Kernel.Gen.facts, Cert.KernelIdeal.Gen.facts, Cert.ReferenceIdeal.Gen.facts, Cert.KernelIdeal.Att.preFacts,
    fun m ρ _ => Cert.Kernel.Gen.frame m ρ, fun m ρ _ => Cert.KernelIdeal.Gen.frame m ρ, fun m ρ _ => Cert.KernelIdeal.Gen.frame m ρ,
    frame_r, fun m ρ _ => frame_r m ρ trivial, preserves, algebraic⟩

end Cert.Proof

end
